-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual_inputs [hPre_usual_inputs : Cert.Pre_usual_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_usual_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_usual_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_usual_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_usual_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual_inputs [hPre_usual_inputs : Cert.Pre_usual_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_usual_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_usual_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_usual_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_usual_inputs [hKernelIdeal : Cert.KernelIdeal.Facts] [hPre_usual_inputs : Cert.Pre_usual_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_usual_inputs [hReferenceIdeal : Cert.ReferenceIdeal.Facts] [hPre_usual_inputs : Cert.Pre_usual_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def preserves_Reference_ReferenceIdeal : Prop :=
  True

def algebraic_KernelIdeal_ReferenceIdeal_pre_usual_inputs [hKernelIdeal : Cert.KernelIdeal.Facts] [hReferenceIdeal : Cert.ReferenceIdeal.Facts] [hPre_usual_inputs : Cert.Pre_usual_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hPre_usual_inputs : Cert.Pre_usual_inputs.Facts),
    quiescent_Kernel (hKernel := hKernel)
    ∧ quiescent_KernelIdeal (hKernelIdeal := hKernelIdeal)
    ∧ quiescent_KernelIdeal_pre_usual_inputs (hKernelIdeal := hKernelIdeal) (hPre_usual_inputs := hPre_usual_inputs)
    ∧ quiescent_ReferenceIdeal (hReferenceIdeal := hReferenceIdeal)
    ∧ quiescent_ReferenceIdeal_pre_usual_inputs (hReferenceIdeal := hReferenceIdeal) (hPre_usual_inputs := hPre_usual_inputs)
    ∧ quiescent_Reference (hReference := hReference)
    ∧ preserves_Kernel_KernelIdeal
    ∧ preserves_Reference_ReferenceIdeal
    ∧ algebraic_KernelIdeal_ReferenceIdeal_pre_usual_inputs (hKernelIdeal := hKernelIdeal) (hReferenceIdeal := hReferenceIdeal) (hPre_usual_inputs := hPre_usual_inputs)
-- ==== Pre_usual_inputs.lean ====
abbrev S64x4096x128 : Shape := ⟨3, ![64, 4096, 128]⟩
abbrev S64x128 : Shape := ⟨2, ![64, 128]⟩
abbrev S64 : Shape := ⟨1, ![64]⟩
abbrev S64x4096 : Shape := ⟨2, ![64, 4096]⟩
abbrev S_ : Shape := ⟨0, ![]⟩

class Facts : Prop where
  bcast_S_S64x128 : S_.BroadcastsInDim S64x128 (![] : Fin 0 → Fin S64x128.rank)
  bcast_S_S64 : S_.BroadcastsInDim S64 (![] : Fin 0 → Fin S64.rank)
  bcast_S_S64x4096 : S_.BroadcastsInDim S64x4096 (![] : Fin 0 → Fin S64x4096.rank)

variable [Facts]

def fn {F : FTy → Type} [FloatOps F] (main_arg0 : FVec F S64x4096x128 .f32) (main_arg1 : FVec F S64x128 .f32) (main_arg2 : FVec F S64x128 .f32) (main_arg3 : FVec F S64 .f32) (main_arg4 : FVec F S64x4096 .f32) : IVec S64x128 1 × IVec S64x128 1 × IVec S64 1 × IVec S64x4096 1 :=
  let main_v0 : FVec F S64x128 .f32 := Host.absf main_arg1
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_v3 : FVec F S64x128 .f32 := Host.absf main_arg2
  let main_cst_0 : FVec F S_ .f32 := constant S_ .f32 0x7F800000#32
  let main_v4 : FVec F S64x128 .f32 := broadcastInDim S64x128 ![] bcast_S_S64x128 main_cst_0
  let main_v5 : IVec S64x128 1 := cmpf .olt main_v3 main_v4
  let main_v6 : FVec F S64 .f32 := Host.absf main_arg3
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_cst_2 : FVec F S_ .f32 := constant S_ .f32 0x3F800000#32
  let main_v9 : FVec F S64x4096 .f32 := broadcastInDim S64x4096 ![] bcast_S_S64x4096 main_cst_2
  let main_v10 : IVec S64x4096 1 := cmpf .oeq main_arg4 main_v9
  (main_v2, main_v5, main_v8, main_v10)
-- ==== Kernel.lean ====
abbrev S64x4096x128 : Shape := ⟨3, ![64, 4096, 128]⟩
abbrev S64x128 : Shape := ⟨2, ![64, 128]⟩
abbrev S64 : Shape := ⟨1, ![64]⟩
abbrev S64x4096 : Shape := ⟨2, ![64, 4096]⟩
abbrev S64x1 : Shape := ⟨2, ![64, 1]⟩
abbrev S64x64x128 : Shape := ⟨3, ![64, 64, 128]⟩
abbrev S8x1024x128 : Shape := ⟨3, ![8, 1024, 128]⟩
abbrev S8x64x128 : Shape := ⟨3, ![8, 64, 128]⟩
abbrev S8x64x1 : Shape := ⟨3, ![8, 64, 1]⟩
abbrev S1x1024x128 : Shape := ⟨3, ![1, 1024, 128]⟩
abbrev S1024x128 : Shape := ⟨2, ![1024, 128]⟩
abbrev S128x1024 : Shape := ⟨2, ![128, 1024]⟩
abbrev S64x1024 : Shape := ⟨2, ![64, 1024]⟩
abbrev S1024 : Shape := ⟨1, ![1024]⟩
abbrev S1x1024 : Shape := ⟨2, ![1, 1024]⟩
abbrev S1x64 : Shape := ⟨2, ![1, 64]⟩
abbrev S1024x1 : Shape := ⟨2, ![1024, 1]⟩
abbrev S1x64x128 : Shape := ⟨3, ![1, 64, 128]⟩
abbrev S1x64x1 : Shape := ⟨3, ![1, 64, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S64x4096x128, .f32⟩
  | .hbm, ⟨1, _⟩ => ⟨S64x128, .f32⟩
  | .hbm, ⟨2, _⟩ => ⟨S64x128, .f32⟩
  | .hbm, ⟨3, _⟩ => ⟨S64, .f32⟩
  | .hbm, ⟨4, _⟩ => ⟨S64x4096, .f32⟩
  | .hbm, ⟨5, _⟩ => ⟨S64x1, .f32⟩
  | .hbm, ⟨6, _⟩ => ⟨S64x64x128, .f32⟩
  | .local _ .vmem, ⟨0, _⟩ => ⟨S8x1024x128, .f32⟩
  | .local _ .vmem, ⟨1, _⟩ => ⟨S8x1024x128, .f32⟩
  | .local _ .vmem, ⟨2, _⟩ => ⟨S64x128, .f32⟩
  | .local _ .vmem, ⟨3, _⟩ => ⟨S64x1, .f32⟩
  | .local _ .vmem, ⟨4, _⟩ => ⟨S64x128, .f32⟩
  | .local _ .vmem, ⟨5, _⟩ => ⟨S8x64x128, .f32⟩
  | .local _ .vmem, ⟨6, _⟩ => ⟨S8x64x128, .f32⟩
  | .local _ .vmem, ⟨7, _⟩ => ⟨S8x64x128, .f32⟩
  | .local _ .vmem, ⟨8, _⟩ => ⟨S8x64x1, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_cond17 (i : grid0.Coords) : BitVec 1 :=
  let arg1 : BitVec 32 := BitVec.ofNat 32 (i 1).val
  let c3_i32 : BitVec 32 := 3#32
  let v291 : BitVec 1 := Scalar.cmpi .eq arg1 c3_i32
  let v292 : BitVec 32 := Scalar.extui v291
  let c0_i32_130 : BitVec 32 := 0#32
  let v293 : BitVec 1 := Scalar.cmpi .ne v292 c0_i32_130
  v293

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "eps_sq" => some ((5316911940649 / 5316911983139663491615228241121378304 : ℝ) : EReal)
  | _ => none
-- ==== Reference.lean ====
abbrev S64x4096x128 : Shape := ⟨3, ![64, 4096, 128]⟩
abbrev S64x128 : Shape := ⟨2, ![64, 128]⟩
abbrev S64 : Shape := ⟨1, ![64]⟩
abbrev S64x4096 : Shape := ⟨2, ![64, 4096]⟩
abbrev S_ : Shape := ⟨0, ![]⟩
abbrev S64x4096x1 : Shape := ⟨3, ![64, 4096, 1]⟩
abbrev S64x4096x64 : Shape := ⟨3, ![64, 4096, 64]⟩
abbrev S1x1x64 : Shape := ⟨3, ![1, 1, 64]⟩
abbrev S64x64x128 : Shape := ⟨3, ![64, 64, 128]⟩
abbrev S64x64 : Shape := ⟨2, ![64, 64]⟩
abbrev S64x64x1 : Shape := ⟨3, ![64, 64, 1]⟩
abbrev S1x64x128 : Shape := ⟨3, ![1, 64, 128]⟩
abbrev S64x8192 : Shape := ⟨2, ![64, 8192]⟩
abbrev S64x1 : Shape := ⟨2, ![64, 1]⟩

abbrev nBuf : Space → Nat
  | .hbm => 67
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x128, .f32⟩
  | .hbm, ⟨2, _⟩ => ⟨S64x128, .f32⟩
  | .hbm, ⟨3, _⟩ => ⟨S64, .f32⟩
  | .hbm, ⟨4, _⟩ => ⟨S64x4096, .f32⟩
  | .hbm, ⟨5, _⟩ => ⟨S64x4096x128, .f32⟩
  | .hbm, ⟨6, _⟩ => ⟨S_, .f32⟩
  | .hbm, ⟨7, _⟩ => ⟨S64x4096, .f32⟩
  | .hbm, ⟨8, _⟩ => ⟨S64x4096x1, .f32⟩
  | .hbm, ⟨9, _⟩ => ⟨S64x4096x1, .f32⟩
  | .hbm, ⟨10, _⟩ => ⟨S_, .f32⟩
  | .hbm, ⟨11, _⟩ => ⟨S64x4096x1, .f32⟩
  | .hbm, ⟨12, _⟩ => ⟨S64x4096x1, .f32⟩
  | .hbm, ⟨13, _⟩ => ⟨S64x4096x128, .f32⟩
  | .hbm, ⟨14, _⟩ => ⟨S64x4096x128, .f32⟩
  | .hbm, ⟨15, _⟩ => ⟨S64x4096x64, .f32⟩
  | .hbm, ⟨16, _⟩ => ⟨S1x1x64, .f32⟩
  | .hbm, ⟨17, _⟩ => ⟨S64x4096x64, .f32⟩
  | .hbm, ⟨18, _⟩ => ⟨S64x4096x64, .f32⟩
  | .hbm, ⟨19, _⟩ => ⟨S_, .f32⟩
  | .hbm, ⟨20, _⟩ => ⟨S64x4096, .f32⟩
  | .hbm, ⟨21, _⟩ => ⟨S_, .f32⟩
  | .hbm, ⟨22, _⟩ => ⟨S64x4096, .f32⟩
  | .hbm, ⟨23, _⟩ => ⟨S64x4096, .f32⟩
  | .hbm, ⟨24, _⟩ => ⟨S64x4096x1, .f32⟩
  | .hbm, ⟨25, _⟩ => ⟨S64x4096x64, .f32⟩
  | .hbm, ⟨26, _⟩ => ⟨S64x4096x64, .f32⟩
  | .hbm, ⟨27, _⟩ => ⟨S64x4096x64, .f32⟩
  | .hbm, ⟨28, _⟩ => ⟨S_, .f32⟩
  | .hbm, ⟨29, _⟩ => ⟨S64x4096, .f32⟩
  | .hbm, ⟨30, _⟩ => ⟨S64x4096x1, .f32⟩
  | .hbm, ⟨31, _⟩ => ⟨S64x4096x64, .f32⟩
  | .hbm, ⟨32, _⟩ => ⟨S64x4096x64, .f32⟩
  | .hbm, ⟨33, _⟩ => ⟨S64x4096x1, .f32⟩
  | .hbm, ⟨34, _⟩ => ⟨S64x4096x64, .f32⟩
  | .hbm, ⟨35, _⟩ => ⟨S64x4096x64, .f32⟩
  | .hbm, ⟨36, _⟩ => ⟨S64x64x128, .f32⟩
  | .hbm, ⟨37, _⟩ => ⟨S_, .f32⟩
  | .hbm, ⟨38, _⟩ => ⟨S64x64, .f32⟩
  | .hbm, ⟨39, _⟩ => ⟨S64x64x1, .f32⟩
  | .hbm, ⟨40, _⟩ => ⟨S1x64x128, .f32⟩
  | .hbm, ⟨41, _⟩ => ⟨S64x64x128, .f32⟩
  | .hbm, ⟨42, _⟩ => ⟨S64x64x128, .f32⟩
  | .hbm, ⟨43, _⟩ => ⟨S64x64x128, .f32⟩
  | .hbm, ⟨44, _⟩ => ⟨S64x64x128, .f32⟩
  | .hbm, ⟨45, _⟩ => ⟨S64x64x128, .f32⟩
  | .hbm, ⟨46, _⟩ => ⟨S_, .f32⟩
  | .hbm, ⟨47, _⟩ => ⟨S64x64, .f32⟩
  | .hbm, ⟨48, _⟩ => ⟨S64x64x1, .f32⟩
  | .hbm, ⟨49, _⟩ => ⟨S64x64x1, .f32⟩
  | .hbm, ⟨50, _⟩ => ⟨S_, .f32⟩
  | .hbm, ⟨51, _⟩ => ⟨S64x64x1, .f32⟩
  | .hbm, ⟨52, _⟩ => ⟨S64x64x1, .f32⟩
  | .hbm, ⟨53, _⟩ => ⟨S64x64x128, .f32⟩
  | .hbm, ⟨54, _⟩ => ⟨S64x64x128, .f32⟩
  | .hbm, ⟨55, _⟩ => ⟨S64x8192, .f32⟩
  | .hbm, ⟨56, _⟩ => ⟨S64x8192, .f32⟩
  | .hbm, ⟨57, _⟩ => ⟨S_, .f32⟩
  | .hbm, ⟨58, _⟩ => ⟨S64, .f32⟩
  | .hbm, ⟨59, _⟩ => ⟨S64x1, .f32⟩
  | .hbm, ⟨60, _⟩ => ⟨S64x1, .f32⟩
  | .hbm, ⟨61, _⟩ => ⟨S_, .f32⟩
  | .hbm, ⟨62, _⟩ => ⟨S64x1, .f32⟩
  | .hbm, ⟨63, _⟩ => ⟨S64x1, .f32⟩
  | .hbm, ⟨64, _⟩ => ⟨S64x8192, .f32⟩
  | .hbm, ⟨65, _⟩ => ⟨S64x8192, .f32⟩
  | .hbm, ⟨66, _⟩ => ⟨S64x64x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.Images.lean ====
/-
  What one grid point computes, over a block of eight images. The kernel's body is unrolled over the eight images of the
  block; here each of its stores is read as one image of a single function of the block.
-/
module

public import proofs.«01_k».proof.Proof.Gen.KernelIdeal.Skeleton
public import Idealize.ShloMosaic.Lib.Pipeline.Value
public import Idealize.ShloMosaic.Lib.ValueIdx

@[expose] public section

noncomputable section

namespace Cert.KernelIdeal.Images

open Cert.KernelIdeal Cert.KernelIdeal.Gen Idealize.ShloMosaic Idealize.ShloMosaic.ValueIdx

variable {F : FTy → Type} [FloatOps F] [Named F]

/-- Image `g` of a block of eight images of 1024 descriptors. -/
def imgX (x : Vec F S8x1024x128 .f32) (g : Fin 8) : Vec F S1x1024x128 .f32 := fun y => x (ix3 g (y 1) (y 2))

/-- Image `g` of a block of eight `64 × 128` tables. -/
def imgT (a : Vec F S8x64x128 .f32) (g : Fin 8) : Vec F S1x64x128 .f32 := fun y => a (ix3 g (y 1) (y 2))

/-- Image `g` of a block of eight columns of length 64. -/
def imgC (s : Vec F S8x64x1 .f32) (g : Fin 8) : Vec F S1x64x1 .f32 := fun y => s (ix3 g (y 1) (y 2))

/-- One chunk's contribution to the first term, for all eight images. -/
def firstAll (w : Vec F S64x128 .f32) (b : Vec F S64x1 .f32) (x : Vec F S8x1024x128 .f32) : Vec F S8x64x128 .f32 :=
  fun i => k0_pay34 w b (imgX x (i 0)) (ix2 (i 1) (i 2))

/-- One chunk's contribution to the assignment sums, for all eight images. -/
def sumsAll (w : Vec F S64x128 .f32) (b : Vec F S64x1 .f32) (x : Vec F S8x1024x128 .f32) : Vec F S8x64x1 .f32 :=
  fun i => k0_pay35 w b (imgX x (i 0)) (ix2 (i 1) (i 2))

/-- The epilogue (centroid term and the two normalizations), for all eight images. -/
def finAll (ct : Vec F S64x128 .f32) (a : Vec F S8x64x128 .f32) (s : Vec F S8x64x1 .f32) : Vec F S8x64x128 .f32 :=
  fun i => k0_pay9 ct (imgT a (i 0)) (imgC s (i 0)) (ix3 (0 : Fin 1) (i 1) (i 2))

/-! ## Loads -/

theorem ld_whole {S : Shape} {e : EltTy} {off : Fin S.rank → Nat} (h : ∀ a, off a = 0)
    (inb : ∀ a, off a + S.size a ≤ S.size a) (X : S.Idx → Elt F e) : View.ld X (Rect.unit off S.size inb) = X :=
  View.ld_unit_zero (funext h) inb X

theorem zero2 : ∀ a : Fin 2, (![0, 0] : Fin 2 → Nat) a = 0 := by decide

/-- An image's offset is below eight: its box lies inside the block. -/
theorem lt8 {g : Nat} {d e : Fin 2 → Nat}
    (h : ∀ a : Fin 3, (![g, 0, 0] : Fin 3 → Nat) a + (Matrix.vecCons 1 d : Fin 3 → Nat) a ≤ (Matrix.vecCons 8 e : Fin 3 → Nat) a) : g < 8 :=
  h 0

/-- The load of image `g` reads that image. -/
theorem ld_imgX (x : Vec F S8x1024x128 .f32) (g : Nat)
    (inb : ∀ a, (![g, 0, 0] : Fin 3 → Nat) a + S1x1024x128.size a ≤ S8x1024x128.size a) :
    View.ld (Val := Elt F) (S := S8x1024x128) (e' := .f32) x (Rect.unit ![g, 0, 0] ![1, 1024, 128] inb) = imgX x ⟨g, lt8 inb⟩ := by
  funext y
  refine congrArg x (funext fun a => Fin.ext ?_)
  have h0 : (y 0).val = 0 := by have : (y 0).val < 1 := (y 0).isLt; omega
  match a with
  | ⟨0, _⟩ => show g + 1 * (y 0).val = g; omega
  | ⟨1, _⟩ => show 0 + 1 * (y 1).val = (y 1).val; omega
  | ⟨2, _⟩ => show 0 + 1 * (y 2).val = (y 2).val; omega

theorem ld_imgT (x : Vec F S8x64x128 .f32) (g : Nat)
    (inb : ∀ a, (![g, 0, 0] : Fin 3 → Nat) a + S1x64x128.size a ≤ S8x64x128.size a) :
    View.ld (Val := Elt F) (S := S8x64x128) (e' := .f32) x (Rect.unit ![g, 0, 0] ![1, 64, 128] inb) = imgT x ⟨g, lt8 inb⟩ := by
  funext y
  refine congrArg x (funext fun a => Fin.ext ?_)
  have h0 : (y 0).val = 0 := by have : (y 0).val < 1 := (y 0).isLt; omega
  match a with
  | ⟨0, _⟩ => show g + 1 * (y 0).val = g; omega
  | ⟨1, _⟩ => show 0 + 1 * (y 1).val = (y 1).val; omega
  | ⟨2, _⟩ => show 0 + 1 * (y 2).val = (y 2).val; omega

theorem ld_imgC (x : Vec F S8x64x1 .f32) (g : Nat)
    (inb : ∀ a, (![g, 0, 0] : Fin 3 → Nat) a + S1x64x1.size a ≤ S8x64x1.size a) :
    View.ld (Val := Elt F) (S := S8x64x1) (e' := .f32) x (Rect.unit ![g, 0, 0] ![1, 64, 1] inb) = imgC x ⟨g, lt8 inb⟩ := by
  funext y
  refine congrArg x (funext fun a => Fin.ext ?_)
  have h0 : (y 0).val = 0 := by have : (y 0).val < 1 := (y 0).isLt; omega
  match a with
  | ⟨0, _⟩ => show g + 1 * (y 0).val = g; omega
  | ⟨1, _⟩ => show 0 + 1 * (y 1).val = (y 1).val; omega
  | ⟨2, _⟩ => show 0 + 1 * (y 2).val = (y 2).val; omega

/-! ## Stores: each is one image of the block's function -/

/-- The place of a store's index in the block. -/
theorem emb_eq {n2 : Nat} (g : Nat)
    (inb : ∀ a, (![g, 0, 0] : Fin 3 → Nat) a + (![1, 64, n2] : Fin 3 → Nat) a ≤ (⟨3, ![8, 64, n2]⟩ : Shape).size a)
    (y : (⟨3, ![1, 64, n2]⟩ : Shape).Idx) :
    (Rect.unit (s := ⟨3, ![8, 64, n2]⟩) ![g, 0, 0] ![1, 64, n2] inb).emb y = ix3 (⟨g, lt8 inb⟩ : Fin 8) (y 1) (y 2) := by
  have h0 : (y 0).val = 0 := by have : (y 0).val < 1 := (y 0).isLt; omega
  funext a
  apply Fin.ext
  match a with
  | ⟨0, _⟩ => show g + 1 * (y 0).val = g; omega
  | ⟨1, _⟩ => show 0 + 1 * (y 1).val = (y 1).val; omega
  | ⟨2, _⟩ => show 0 + 1 * (y 2).val = (y 2).val; omega

theorem idx_unit {n2 : Nat} (y : (⟨3, ![1, 64, n2]⟩ : Shape).Idx) : y = ix3 (0 : Fin 1) (y 1) (y 2) := by
  rw [eq_ix3 y]
  have h : y 0 = (0 : Fin 1) := Subsingleton.elim (α := Fin 1) _ _
  rw [h]
  rfl

/-- A stored `64 × n` table with a unit axis added. -/
theorem add_unit {n2 : Nat} (v : (⟨2, ![64, n2]⟩ : Shape).Idx → F .f32)
    (h : (⟨2, ![64, n2]⟩ : Shape).ShapeCasts ⟨3, ![1, 64, n2]⟩) (y : (⟨3, ![1, 64, n2]⟩ : Shape).Idx) :
    shapeCast ⟨3, ![1, 64, n2]⟩ v h y = v (ix2 (y 1) (y 2)) :=
  (shapeCast_addUnit_apply ![64, n2] v h y).trans (congrArg v (funext fun a => by match a with | ⟨0, _⟩ => rfl | ⟨1, _⟩ => rfl))

theorem drop_unit {n2 : Nat} (v : (⟨3, ![1, 64, n2]⟩ : Shape).Idx → F .f32)
    (h : (⟨3, ![1, 64, n2]⟩ : Shape).ShapeCasts ⟨2, ![64, n2]⟩) (y : (⟨2, ![64, n2]⟩ : Shape).Idx) :
    shapeCast ⟨2, ![64, n2]⟩ v h y = v (ix3 (0 : Fin 1) (y 0) (y 1)) :=
  (shapeCast_dropUnit_apply ![64, n2] v h y).trans (congrArg v (funext fun a => by match a with | ⟨0, _⟩ => rfl | ⟨1, _⟩ => rfl | ⟨2, _⟩ => rfl))

variable (w : Vec F S64x128 .f32) (b : Vec F S64x1 .f32) (x : Vec F S8x1024x128 .f32) (ct : Vec F S64x128 .f32)
  (a : Vec F S8x64x128 .f32) (s : Vec F S8x64x1 .f32) (g : Nat)

/-- The first chunk stores its first term. -/
theorem first_store (inb) (inx) (y : S1x64x128.Idx) :
    shapeCast S1x64x128 (k0_pay34 w b (View.ld (Val := Elt F) (S := S8x1024x128) (e' := .f32) x (Rect.unit ![g, 0, 0] ![1, 1024, 128] inx))) shapeCasts_S64x128_S1x64x128 y
      = firstAll w b x ((Rect.unit (s := S8x64x128) ![g, 0, 0] ![1, 64, 128] inb).emb y) := by
  rw [ld_imgX x g inx, emb_eq g inb y]
  exact add_unit _ _ y

theorem sums_store (inb) (inx) (y : S1x64x1.Idx) :
    shapeCast S1x64x1 (k0_pay35 w b (View.ld (Val := Elt F) (S := S8x1024x128) (e' := .f32) x (Rect.unit ![g, 0, 0] ![1, 1024, 128] inx))) shapeCasts_S64x1_S1x64x1 y
      = sumsAll w b x ((Rect.unit (s := S8x64x1) ![g, 0, 0] ![1, 64, 1] inb).emb y) := by
  rw [ld_imgX x g inx, emb_eq g inb y]
  exact add_unit _ _ y

/-- A later chunk adds its first term to what the image's accumulator held. -/
theorem first_add (inb) (inx) (ina) (y : S1x64x128.Idx) :
    shapeCast S1x64x128 (addf (φ := .f32) (shapeCast S64x128 (View.ld (Val := Elt F) (S := S8x64x128) (e' := .f32) a (Rect.unit ![g, 0, 0] ![1, 64, 128] ina)) shapeCasts_S1x64x128_S64x128) (k0_pay34 w b (View.ld (Val := Elt F) (S := S8x1024x128) (e' := .f32) x (Rect.unit ![g, 0, 0] ![1, 1024, 128] inx))))
        shapeCasts_S64x128_S1x64x128 y
      = addf (φ := .f32) (s := S8x64x128) a (firstAll w b x) ((Rect.unit (s := S8x64x128) ![g, 0, 0] ![1, 64, 128] inb).emb y) := by
  rw [ld_imgX x g inx, ld_imgT a g ina, emb_eq g inb y]
  refine (add_unit _ _ y).trans ?_
  exact congrArg₂ FloatOps.addf (drop_unit _ _ _) rfl

theorem sums_add (inb) (inx) (ina) (y : S1x64x1.Idx) :
    shapeCast S1x64x1 (addf (φ := .f32) (shapeCast S64x1 (View.ld (Val := Elt F) (S := S8x64x1) (e' := .f32) s (Rect.unit ![g, 0, 0] ![1, 64, 1] ina)) shapeCasts_S1x64x1_S64x1) (k0_pay35 w b (View.ld (Val := Elt F) (S := S8x1024x128) (e' := .f32) x (Rect.unit ![g, 0, 0] ![1, 1024, 128] inx))))
        shapeCasts_S64x1_S1x64x1 y
      = addf (φ := .f32) (s := S8x64x1) s (sumsAll w b x) ((Rect.unit (s := S8x64x1) ![g, 0, 0] ![1, 64, 1] inb).emb y) := by
  rw [ld_imgX x g inx, ld_imgC s g ina, emb_eq g inb y]
  refine (add_unit _ _ y).trans ?_
  exact congrArg₂ FloatOps.addf (drop_unit _ _ _) rfl

/-- The epilogue stores the finished image. -/
theorem fin_store (inb) (ina) (ins) (y : S1x64x128.Idx) :
    k0_pay9 ct (View.ld (Val := Elt F) (S := S8x64x128) (e' := .f32) a (Rect.unit ![g, 0, 0] ![1, 64, 128] ina)) (View.ld (Val := Elt F) (S := S8x64x1) (e' := .f32) s (Rect.unit ![g, 0, 0] ![1, 64, 1] ins)) y
      = finAll ct a s ((Rect.unit (s := S8x64x128) ![g, 0, 0] ![1, 64, 128] inb).emb y) := by
  rw [ld_imgT a g ina, ld_imgC s g ins, emb_eq g inb y]
  exact congrArg _ (idx_unit y)

/-- The same when the accumulators are read back from the point's own stores. -/
theorem fin_store_cov {sig : RefSig} {κ : Kind} {sp sp' : Space} {v : View sig κ sp S8x64x128 .f32} {v' : View sig κ sp' S8x64x1 .f32}
    {L : List (View.Piece (Elt F) S8x64x128 .f32)} {L' : List (View.Piece (Elt F) S8x64x1 .f32)}
    (hL : ∀ y, ∃ p ∈ L, y ∈ p.1.set) (hL' : ∀ y, ∃ p ∈ L', y ∈ p.1.set) {ct' : Vec F S64x128 .f32}
    (hct : ct' = ct) (ha : View.canon L = a) (hs : View.canon L' = s) (inb) (ina) (ins) (y : S1x64x128.Idx) :
    k0_pay9 ct' (v.readCov L (Rect.unit (s := S8x64x128) ![g, 0, 0] ![1, 64, 128] ina).toLoadRect)
        (v'.readCov L' (Rect.unit (s := S8x64x1) ![g, 0, 0] ![1, 64, 1] ins).toLoadRect) y
      = finAll ct a s ((Rect.unit (s := S8x64x128) ![g, 0, 0] ![1, 64, 128] inb).emb y) := by
  rw [View.readCov_eq_canon_ld v L _ hL, View.readCov_eq_canon_ld v' L' _ hL', hct, ha, hs]
  exact fin_store ct a s g inb ina ins y

end Cert.KernelIdeal.Images

end
-- ==== Proof.Cases.lean ====
/-
  What the body leaves in the two accumulators and in the output block, in each of its three cases: at an image block's first
  chunk (case A), at a middle chunk (case B), at the last chunk (case C).
-/
module

public import proofs.«01_k».proof.Proof.Gen.KernelIdeal.Frame
public import proofs.«01_k».proof.Proof.Images

@[expose] public section

set_option maxRecDepth 16384

noncomputable section

namespace Cert.KernelIdeal.Images

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F] [Named F]

variable (c : Dev nD) (i : grid0.Coords) (arg2 : Memref sig .tc .vmem S8x1024x128 .f32) (harg2 : arg2.IsWhole) (arg3 :
  Memref sig .tc .vmem S64x128 .f32) (harg3 : arg3.IsWhole) (arg4 : Memref sig .tc .vmem S64x1 .f32) (harg4 :
  arg4.IsWhole) (arg5 : Memref sig .tc .vmem S64x128 .f32) (harg5 : arg5.IsWhole) (arg6 : Memref sig .tc .vmem S8x64x128
  .f32) (harg6 : arg6.IsWhole) (arg7 : Memref sig .tc .vmem S8x64x128 .f32) (harg7 : arg7.IsWhole) (arg8 : Memref sig
  .tc .vmem S8x64x1 .f32) (harg8 : arg8.IsWhole)
  (x0 : Vec F S8x1024x128 .f32) (x1 : Vec F S64x128 .f32) (x2 : Vec F S64x1 .f32) (x3 : Vec F S64x128 .f32)

section CaseA

variable (hc0 : cond0_0 i) (hc1 : ¬cond0_1 i) (hc2 : cond0_2 i) (hc3 : ¬cond0_3 i) (hc4 : cond0_4 i) (hc5 : ¬cond0_5
  i) (hc6 : cond0_6 i) (hc7 : ¬cond0_7 i) (hc8 : cond0_8 i) (hc9 : ¬cond0_9 i) (hc10 : cond0_10 i) (hc11 : ¬cond0_11 i)
  (hc12 : cond0_12 i) (hc13 : ¬cond0_13 i) (hc14 : cond0_14 i) (hc15 : ¬cond0_15 i) (hc16 : ¬cond0_16 i)

/-- Case A leaves the chunk's first term. -/
theorem first_A :
    sout0_A_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3
      = firstAll x1 x2 x0 := by
  unfold sout0_A_0
  rw [View.read_writes_eq_canon _ _ _ (scover0_A_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3)]
  funext y
  refine View.canon_apply_of_pieces _ _ ?_ y (scover0_A_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 y)
  unfold kernelRun0_A
  dsimp only
  sl_unfold_words
  simp only [View.readAt_eq_ld, harg2.read_unread, harg3.read_unread, harg4.read_unread, harg5.read_unread,
    harg7.read_unread, harg8.read_unread]
  simp only [ld_whole (S := S64x128) zero2, ld_whole (S := S64x1) zero2]
  intro p hp
  simp only [List.mem_cons, List.not_mem_nil, or_false] at hp
  rcases hp with rfl | rfl | rfl | rfl | rfl | rfl | rfl | rfl
  all_goals
    intro z
    refine first_store x1 x2 x0 _ ?_ ?_ z <;> decide

/-- Case A leaves the chunk's assignment sums. -/
theorem sums_A :
    sout0_A_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3
      = sumsAll x1 x2 x0 := by
  unfold sout0_A_1
  rw [View.read_writes_eq_canon _ _ _ (scover0_A_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3)]
  funext y
  refine View.canon_apply_of_pieces _ _ ?_ y (scover0_A_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 y)
  unfold kernelRun0_A
  dsimp only
  sl_unfold_words
  simp only [View.readAt_eq_ld, harg2.read_unread, harg3.read_unread, harg4.read_unread, harg5.read_unread,
    harg7.read_unread, harg8.read_unread]
  simp only [ld_whole (S := S64x128) zero2, ld_whole (S := S64x1) zero2]
  intro p hp
  simp only [List.mem_cons, List.not_mem_nil, or_false] at hp
  rcases hp with rfl | rfl | rfl | rfl | rfl | rfl | rfl | rfl
  all_goals
    intro z
    refine sums_store x1 x2 x0 _ ?_ ?_ z <;> decide

end CaseA

section CaseB

variable (hc0 : ¬cond0_0 i) (hc1 : cond0_1 i) (hc2 : ¬cond0_2 i) (hc3 : cond0_3 i) (hc4 : ¬cond0_4 i) (hc5 : cond0_5
  i) (hc6 : ¬cond0_6 i) (hc7 : cond0_7 i) (hc8 : ¬cond0_8 i) (hc9 : cond0_9 i) (hc10 : ¬cond0_10 i) (hc11 : cond0_11 i)
  (hc12 : ¬cond0_12 i) (hc13 : cond0_13 i) (hc14 : ¬cond0_14 i) (hc15 : cond0_15 i) (hc16 : ¬cond0_16 i)

variable (xs0 : Vec F S8x64x128 .f32) (xs1 : Vec F S8x64x1 .f32)

/-- Case B adds the chunk's first term to the accumulator. -/
theorem first_B :
    sout0_B_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1
      = addf (φ := .f32) xs0 (firstAll x1 x2 x0) := by
  unfold sout0_B_0
  rw [View.read_writes_eq_canon _ _ _ (scover0_B_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1)]
  funext y
  refine View.canon_apply_of_pieces _ _ ?_ y (scover0_B_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1 y)
  unfold kernelRun0_B
  dsimp only
  sl_unfold_words
  simp only [View.readAt_eq_ld, harg2.read_unread, harg3.read_unread, harg4.read_unread, harg5.read_unread,
    harg7.read_unread, harg8.read_unread]
  simp only [ld_whole (S := S64x128) zero2, ld_whole (S := S64x1) zero2]
  intro p hp
  simp only [List.mem_cons, List.not_mem_nil, or_false] at hp
  rcases hp with rfl | rfl | rfl | rfl | rfl | rfl | rfl | rfl
  all_goals
    intro z
    refine first_add x1 x2 x0 xs0 _ ?_ ?_ ?_ z <;> decide

/-- Case B adds the chunk's assignment sums to the accumulator. -/
theorem sums_B :
    sout0_B_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1
      = addf (φ := .f32) xs1 (sumsAll x1 x2 x0) := by
  unfold sout0_B_1
  rw [View.read_writes_eq_canon _ _ _ (scover0_B_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1)]
  funext y
  refine View.canon_apply_of_pieces _ _ ?_ y (scover0_B_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1 y)
  unfold kernelRun0_B
  dsimp only
  sl_unfold_words
  simp only [View.readAt_eq_ld, harg2.read_unread, harg3.read_unread, harg4.read_unread, harg5.read_unread,
    harg7.read_unread, harg8.read_unread]
  simp only [ld_whole (S := S64x128) zero2, ld_whole (S := S64x1) zero2]
  intro p hp
  simp only [List.mem_cons, List.not_mem_nil, or_false] at hp
  rcases hp with rfl | rfl | rfl | rfl | rfl | rfl | rfl | rfl
  all_goals
    intro z
    refine sums_add x1 x2 x0 xs1 _ ?_ ?_ ?_ z <;> decide

end CaseB

section CaseC

variable (hc0 : ¬cond0_0 i) (hc1 : cond0_1 i) (hc2 : ¬cond0_2 i) (hc3 : cond0_3 i) (hc4 : ¬cond0_4 i) (hc5 : cond0_5
  i) (hc6 : ¬cond0_6 i) (hc7 : cond0_7 i) (hc8 : ¬cond0_8 i) (hc9 : cond0_9 i) (hc10 : ¬cond0_10 i) (hc11 : cond0_11 i)
  (hc12 : ¬cond0_12 i) (hc13 : cond0_13 i) (hc14 : ¬cond0_14 i) (hc15 : cond0_15 i) (hc16 : cond0_16 i)

variable (xs0 : Vec F S8x64x128 .f32) (xs1 : Vec F S8x64x1 .f32)

/-- Case C adds the chunk's first term to the accumulator. -/
theorem first_C :
    sout0_C_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1
      = addf (φ := .f32) xs0 (firstAll x1 x2 x0) := by
  unfold sout0_C_0
  rw [View.read_writes_eq_canon _ _ _ (scover0_C_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1)]
  funext y
  refine View.canon_apply_of_pieces _ _ ?_ y (scover0_C_0
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1 y)
  unfold kernelRun0_C
  dsimp only
  sl_unfold_words
  simp only [View.readAt_eq_ld, harg2.read_unread, harg3.read_unread, harg4.read_unread, harg5.read_unread,
    harg7.read_unread, harg8.read_unread]
  simp only [ld_whole (S := S64x128) zero2, ld_whole (S := S64x1) zero2]
  intro p hp
  simp only [List.mem_cons, List.not_mem_nil, or_false] at hp
  rcases hp with rfl | rfl | rfl | rfl | rfl | rfl | rfl | rfl
  all_goals
    intro z
    refine first_add x1 x2 x0 xs0 _ ?_ ?_ ?_ z <;> decide

/-- Case C adds the chunk's assignment sums to the accumulator. -/
theorem sums_C :
    sout0_C_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1
      = addf (φ := .f32) xs1 (sumsAll x1 x2 x0) := by
  unfold sout0_C_1
  rw [View.read_writes_eq_canon _ _ _ (scover0_C_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1)]
  funext y
  refine View.canon_apply_of_pieces _ _ ?_ y (scover0_C_1
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1 y)
  unfold kernelRun0_C
  dsimp only
  sl_unfold_words
  simp only [View.readAt_eq_ld, harg2.read_unread, harg3.read_unread, harg4.read_unread, harg5.read_unread,
    harg7.read_unread, harg8.read_unread]
  simp only [ld_whole (S := S64x128) zero2, ld_whole (S := S64x1) zero2]
  intro p hp
  simp only [List.mem_cons, List.not_mem_nil, or_false] at hp
  rcases hp with rfl | rfl | rfl | rfl | rfl | rfl | rfl | rfl
  all_goals
    intro z
    refine sums_add x1 x2 x0 xs1 _ ?_ ?_ ?_ z <;> decide

/-- Case C writes the finished images: the epilogue of the accumulators as case C leaves them. -/
theorem out_C :
    out0_C_4
      c i arg2 harg2 arg3 harg3 arg4 harg4 arg5 harg5 arg6 harg6 arg7 harg7 arg8 harg8 hc0 hc1 hc2 hc3 hc4 hc5 hc6 hc7
      hc8 hc9 hc10 hc11 hc12 hc13 hc14 hc15 hc16 x0 x1 x2 x3 xs0 xs1
      = finAll x3 (addf (φ := .f32) xs0 (firstAll x1 x2 x0)) (addf (φ := .f32) xs1 (sumsAll x1 x2 x0)) := by
  have h0 := first_C
    c i arg2 harg2 arg3 harg3 arg4 harg4 arg5 harg5 arg6 harg6 arg7 harg7 arg8 harg8 x0 x1 x2 x3 hc0 hc1 hc2 hc3 hc4
    hc5 hc6 hc7 hc8 hc9 hc10 hc11 hc12 hc13 hc14 hc15 hc16 xs0 xs1
  have h1 := sums_C
    c i arg2 harg2 arg3 harg3 arg4 harg4 arg5 harg5 arg6 harg6 arg7 harg7 arg8 harg8 x0 x1 x2 x3 hc0 hc1 hc2 hc3 hc4
    hc5 hc6 hc7 hc8 hc9 hc10 hc11 hc12 hc13 hc14 hc15 hc16 xs0 xs1
  unfold sout0_C_0 at h0
  unfold sout0_C_1 at h1
  unfold out0_C_4
  rw [View.read_writes_eq_canon _ _ _ (scover0_C_0
    c i arg2 harg2 arg3 harg3 arg4 harg4 arg5 harg5 arg6 harg6 arg7 harg7 arg8 harg8 hc0 hc1 hc2 hc3 hc4 hc5 hc6 hc7
    hc8 hc9 hc10 hc11 hc12 hc13 hc14 hc15 hc16 x0 x1 x2 x3 xs0 xs1)] at h0
  rw [View.read_writes_eq_canon _ _ _ (scover0_C_1
    c i arg2 harg2 arg3 harg3 arg4 harg4 arg5 harg5 arg6 harg6 arg7 harg7 arg8 harg8 hc0 hc1 hc2 hc3 hc4 hc5 hc6 hc7
    hc8 hc9 hc10 hc11 hc12 hc13 hc14 hc15 hc16 x0 x1 x2 x3 xs0 xs1)] at h1
  rw [View.read_writes_eq_canon _ _ _ (cover0_C_4
    c i arg2 harg2 arg3 harg3 arg4 harg4 arg5 harg5 arg6 harg6 arg7 harg7 arg8 harg8 hc0 hc1 hc2 hc3 hc4 hc5 hc6 hc7
    hc8 hc9 hc10 hc11 hc12 hc13 hc14 hc15 hc16 x0 x1 x2 x3 xs0 xs1)]
  have hct : View.readAt (Elt F) arg5.view (Rect.unit ![0, 0] ![64, 128] inb_S64x128_S64x128_0_0).toLoadRect
      (harg5.unread x3) = x3 := by
    rw [View.readAt_eq_ld, harg5.read_unread]
    exact ld_whole (S := S64x128) zero2 _ x3
  funext y
  refine View.canon_apply_of_pieces _ _ ?_ y (cover0_C_4
    c i arg2 harg2 arg3 harg3 arg4 harg4 arg5 harg5 arg6 harg6 arg7 harg7 arg8 harg8 hc0 hc1 hc2 hc3 hc4 hc5 hc6 hc7
    hc8 hc9 hc10 hc11 hc12 hc13 hc14 hc15 hc16 x0 x1 x2 x3 xs0 xs1 y)
  have fin := fin_store_cov (v := arg7.view) (v' := arg8.view) x3 _ _ (hL := scover0_C_0
    c i arg2 harg2 arg3 harg3 arg4 harg4 arg5 harg5 arg6 harg6 arg7 harg7 arg8 harg8 hc0 hc1 hc2 hc3 hc4 hc5 hc6 hc7
    hc8 hc9 hc10 hc11 hc12 hc13 hc14 hc15 hc16 x0 x1 x2 x3 xs0 xs1)
    (hL' := scover0_C_1
    c i arg2 harg2 arg3 harg3 arg4 harg4 arg5 harg5 arg6 harg6 arg7 harg7 arg8 harg8 hc0 hc1 hc2 hc3 hc4 hc5 hc6 hc7
    hc8 hc9 hc10 hc11 hc12 hc13 hc14 hc15 hc16 x0 x1 x2 x3 xs0 xs1)
    (hct := hct) (ha := h0) (hs := h1)
  unfold kernelRun0_C
  dsimp only
  intro p hp
  simp only [List.mem_cons, List.not_mem_nil, or_false] at hp
  rcases hp with rfl | rfl | rfl | rfl | rfl | rfl | rfl | rfl
  all_goals
    intro z
    refine fin _ ?_ ?_ ?_ z <;> decide

end CaseC

end Cert.KernelIdeal.Images

end
-- ==== Proof.Chunks.lean ====
/-
  The accumulators over the four chunks of an image block: point `4 q + j` of the grid works on chunk `j` of the
  eight images of block `q`, and the last of the four points leaves the finished block in the output.
-/
module

public import proofs.«01_k».proof.Proof.Gen.KernelIdeal.Value
public import proofs.«01_k».proof.Proof.Cases

@[expose] public section

noncomputable section

namespace Cert.KernelIdeal.Images

open Cert.KernelIdeal Cert.KernelIdeal.Gen Cert.KernelIdeal.Value Idealize.ShloMosaic Idealize.ShloMosaic.TcCoe
open Idealize.SL.Sem

variable {F : FTy → Type} [FloatOps F] [Named F]
variable (m : (ℓ : Loc nD τ sig) → Buf (Elt F) ℓ)

/-- The block of `x` that point `t` works on. -/
abbrev xBlk (c : Dev nD) (t : Fin cfg0.N) : Vec F S8x1024x128 .f32 := iblk m c 0 t
/-- The weights, as point `t` reads them. -/
abbrev wBlk (c : Dev nD) (t : Fin cfg0.N) : Vec F S64x128 .f32 := iblk m c 1 t
/-- The biases, as point `t` reads them. -/
abbrev bBlk (c : Dev nD) (t : Fin cfg0.N) : Vec F S64x1 .f32 := iblk m c 2 t
/-- The centroids, as point `t` reads them. -/
abbrev cBlk (c : Dev nD) (t : Fin cfg0.N) : Vec F S64x128 .f32 := iblk m c 3 t

/-- The chunk's first term at point `t`. -/
abbrev firstAt (c : Dev nD) (t : Fin cfg0.N) : Vec F S8x64x128 .f32 :=
  firstAll (wBlk m c t) (bBlk m c t) (xBlk m c t)
/-- The chunk's assignment sums at point `t`. -/
abbrev sumsAt (c : Dev nD) (t : Fin cfg0.N) : Vec F S8x64x1 .f32 :=
  sumsAll (wBlk m c t) (bBlk m c t) (xBlk m c t)

/-- After the first chunk the accumulators hold that chunk's terms. -/
theorem acc_start (c : Dev nD) (t : Fin cfg0.N) (h : t.val % 4 = 0) :
    (outsAt0 m c t.val t.isLt).2 = (firstAt m c t, sumsAt m c t) := by
  have h' : ¬1 ≤ t.val % 4 := by omega
  have h3 : ¬t.val % 4 = 3 := by omega
  rw [outsAt0_A m c t h h' h h' h h' h h' h h' h h' h h' h h' h3, first_A, sums_A]

/-- A later chunk adds its terms to what the point before left. -/
theorem acc_step (c : Dev nD) (t : Fin cfg0.N) (h : ¬t.val % 4 = 0) :
    (outsAt0 m c t.val t.isLt).2
      = (addf (φ := .f32) (outsAt0 m c (t.val - 1) (lt_of_le_of_lt (Nat.sub_le _ _) t.isLt)).2.1 (firstAt m c t),
         addf (φ := .f32) (outsAt0 m c (t.val - 1) (lt_of_le_of_lt (Nat.sub_le _ _) t.isLt)).2.2 (sumsAt m c t)) := by
  have h' : 1 ≤ t.val % 4 := by omega
  by_cases h3 : t.val % 4 = 3
  · rw [outsAt0_C m c t h h' h h' h h' h h' h h' h h' h h' h h' h3, first_C, sums_C]
  · rw [outsAt0_B m c t h h' h h' h h' h h' h h' h h' h h' h h' h3, first_B, sums_B]

/-- The last chunk finishes the block from the two accumulators. -/
theorem out_last (c : Dev nD) (t : Fin cfg0.N) (h3 : t.val % 4 = 3) :
    (outsAt0 m c t.val t.isLt).1
      = finAll (cBlk m c t) (outsAt0 m c t.val t.isLt).2.1 (outsAt0 m c t.val t.isLt).2.2 := by
  have h : ¬t.val % 4 = 0 := by omega
  have h' : 1 ≤ t.val % 4 := by omega
  rw [acc_step m c t h, outsAt0_C m c t h h' h h' h h' h h' h h' h h' h h' h h' h3, out_C]

/-- Point `4 q + j`. -/
abbrev pt (q : Fin 8) (j : Fin 4) : Fin cfg0.N :=
  ⟨4 * q.val + j.val, lt_of_lt_of_eq (by omega) (show cfg0.N = 32 from N_0).symm⟩

/-- The first accumulator after the four chunks of block `q`. -/
def firstSum (c : Dev nD) (q : Fin 8) : Vec F S8x64x128 .f32 :=
  addf (addf (addf (firstAt m c (pt q 0)) (firstAt m c (pt q 1))) (firstAt m c (pt q 2))) (firstAt m c (pt q 3))
/-- The second accumulator after the four chunks of block `q`. -/
def sumsSum (c : Dev nD) (q : Fin 8) : Vec F S8x64x1 .f32 :=
  addf (addf (addf (sumsAt m c (pt q 0)) (sumsAt m c (pt q 1))) (sumsAt m c (pt q 2))) (sumsAt m c (pt q 3))

/-- The output block after the four chunks of block `q`. -/
theorem out_block (c : Dev nD) (q : Fin 8) :
    (outsAt0 m c (pt q 3).val (pt q 3).isLt).1 = finAll (cBlk m c (pt q 3)) (firstSum m c q) (sumsSum m c q) := by
  have e0 := acc_start m c (pt q 0) (by show (4 * q.val + 0) % 4 = 0; omega)
  have e1 := acc_step m c (pt q 1) (by show ¬(4 * q.val + 1) % 4 = 0; omega)
  have e2 := acc_step m c (pt q 2) (by show ¬(4 * q.val + 2) % 4 = 0; omega)
  have e3 := acc_step m c (pt q 3) (by show ¬(4 * q.val + 3) % 4 = 0; omega)
  change _ = (addf (φ := .f32) (outsAt0 m c (pt q 0).val (pt q 0).isLt).2.1 _, addf (φ := .f32) (outsAt0 m c (pt q 0).val (pt q 0).isLt).2.2 _) at e1
  change _ = (addf (φ := .f32) (outsAt0 m c (pt q 1).val (pt q 1).isLt).2.1 _, addf (φ := .f32) (outsAt0 m c (pt q 1).val (pt q 1).isLt).2.2 _) at e2
  change _ = (addf (φ := .f32) (outsAt0 m c (pt q 2).val (pt q 2).isLt).2.1 _, addf (φ := .f32) (outsAt0 m c (pt q 2).val (pt q 2).isLt).2.2 _) at e3
  rw [out_last m c (pt q 3) (by show (4 * q.val + 3) % 4 = 3; omega), e3, e2, e1, e0]
  rfl

/-- The result array at an index: image `8 q + g` is image `g` of block `q`. -/
theorem result_at (c : Dev nD) (q : Fin 8) (i : S64x64x128.Idx) (hq : (i 0).val / 8 = q.val) :
    G4 m c i = finAll (cBlk m c (pt q 3)) (firstSum m c q) (sumsSum m c q) (loc4Of i) := by
  have h1 : (i 1).val < 64 := (i 1).isLt
  have h2 : (i 2).val < 128 := (i 2).isLt
  have hp : pt4Of i = (pt q 3).val := by
    show 4 * (1 * ((i 0).val / 8 - 0) + 1 * ((i 1).val / 64 - 0) + 1 * ((i 2).val / 128 - 0)) + 3 = 4 * q.val + 3
    omega
  have hlt : pt4Of i < cfg0.N := by rw [hp]; exact (pt q 3).isLt
  unfold G4
  rw [dif_pos hlt, ← outsAt0_sweep m c (pt4Of i) hlt, ← out_block m c q]
  have key : ∀ (n : ℕ) (h : n < cfg0.N), n = (pt q 3).val → outsAt0 m c n h = outsAt0 m c (pt q 3).val (pt q 3).isLt := by
    rintro _ _ rfl; rfl
  rw [key _ hlt hp]

end Cert.KernelIdeal.Images
-- ==== Proof.Blocks.lean ====
/-
  The blocks the grid points read, at an index of the launched arrays.
-/
module

public import proofs.«01_k».proof.Proof.Chunks

@[expose] public section

noncomputable section

namespace Cert.KernelIdeal.Images

open Cert.KernelIdeal Cert.KernelIdeal.Gen Cert.KernelIdeal.Value Idealize.ShloMosaic Idealize.ShloMosaic.TcCoe
open Idealize.SL.Sem Idealize.ShloMosaic.ValueIdx

variable {F : FTy → Type} [FloatOps F] [Named F]
variable (m : (ℓ : Loc nD τ sig) → Buf (Elt F) ℓ)

/-- Where the blocks of point `t` lie. -/
theorem block_index : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The biases in the kernel's column. -/
theorem V_main_v0 (c : Dev nD) :
    V m c main_v0 = shapeCast S64x1 (m ((c : Thread nD τ).loc main_arg3)) shapeCasts_S64_S64x1 := by
  show StableHlo.after [StableHlo.reshape main_arg3 main_v0 rfl shapeCasts_S64_S64x1] (fun b => m (c, b)) main_v0 = _
  rw [StableHlo.after_cons, StableHlo.after_nil, StableHlo.reshape_result]
  rfl

/-- Image `8 q + g`. -/
abbrev img (q g : Fin 8) : Fin 64 := ⟨8 * q.val + g.val, by omega⟩
/-- Position `1024 j + r` of an image. -/
abbrev pos (j : Fin 4) (r : Fin 1024) : Fin 4096 := ⟨1024 * j.val + r.val, by omega⟩

/-- The block of `x` at point `4 q + j`. -/
theorem xBlk_at (c : Dev nD) (q : Fin 8) (j : Fin 4) (g : Fin 8) (r : Fin 1024) (d : Fin 128) :
    xBlk m c (pt q j) (ix3 g r d) = m ((c : Thread nD τ).loc main_arg0) (ix3 (img q g) (pos j r) d) := by
  obtain ⟨h0, h1, h2, -⟩ := block_index (pt q j)
  have hv : (pt q j).val = 4 * q.val + j.val := rfl
  show V m c main_arg0 (((cfg0.win 0).blk (pt q j)).view.emb (ix3 g r d)) = _
  rw [V_main_arg0]
  congr 1
  funext a
  apply Fin.ext
  match a with
  | ⟨0, _⟩ => show win0_0.index (pt q j) (0 : Fin 3) * 8 + 1 * g.val = 8 * q.val + g.val; omega
  | ⟨1, _⟩ => show win0_0.index (pt q j) (1 : Fin 3) * 1024 + 1 * r.val = 1024 * j.val + r.val; omega
  | ⟨2, _⟩ => show win0_0.index (pt q j) (2 : Fin 3) * 128 + 1 * d.val = d.val; omega

/-- The weights at any point. -/
theorem wBlk_at (c : Dev nD) (t : Fin cfg0.N) (k : Fin 64) (d : Fin 128) :
    wBlk m c t (ix2 k d) = m ((c : Thread nD τ).loc main_arg2) (ix2 k d) := by
  obtain ⟨-, -, -, h0, h1, -⟩ := block_index t
  show V m c main_arg2 (((cfg0.win 1).blk t).view.emb (ix2 k d)) = _
  rw [V_main_arg2]
  congr 1
  funext a
  apply Fin.ext
  match a with
  | ⟨0, _⟩ => show win0_1.index t (0 : Fin 2) * 64 + 1 * k.val = k.val; omega
  | ⟨1, _⟩ => show win0_1.index t (1 : Fin 2) * 128 + 1 * d.val = d.val; omega

/-- The biases at any point. -/
theorem bBlk_at (c : Dev nD) (t : Fin cfg0.N) (k : Fin 64) (u : Fin 1) :
    bBlk m c t (ix2 k u) = m ((c : Thread nD τ).loc main_arg3) (ix1 k) := by
  obtain ⟨-, -, -, -, -, h0, h1, -⟩ := block_index t
  have hu : u.val = 0 := by omega
  show V m c main_v0 (((cfg0.win 2).blk t).view.emb (ix2 k u)) = _
  rw [V_main_v0]
  refine shapeCast_apply _ _ _ _ ?_
  refine (Shape.rowMajor_val_one (d := ![64]) (ix1 k)).trans (Eq.trans ?_ (Shape.rowMajor_val_two (d := ![64, 1]) _).symm)
  show k.val = (win0_2.index t (0 : Fin 2) * 64 + 1 * k.val) * 1 + (win0_2.index t (1 : Fin 2) * 1 + 1 * u.val)
  omega

/-- The centroids at any point. -/
theorem cBlk_at (c : Dev nD) (t : Fin cfg0.N) (k : Fin 64) (d : Fin 128) :
    cBlk m c t (ix2 k d) = m ((c : Thread nD τ).loc main_arg1) (ix2 k d) := by
  obtain ⟨-, -, -, -, -, -, -, h0, h1⟩ := block_index t
  show V m c main_arg1 (((cfg0.win 3).blk t).view.emb (ix2 k d)) = _
  rw [V_main_arg1]
  congr 1
  funext a
  apply Fin.ext
  match a with
  | ⟨0, _⟩ => show win0_3.index t (0 : Fin 2) * 64 + 1 * k.val = k.val; omega
  | ⟨1, _⟩ => show win0_3.index t (1 : Fin 2) * 128 + 1 * d.val = d.val; omega

end Cert.KernelIdeal.Images
-- ==== Proof.Plain.lean ====
/-
  What the kernel and the reference compute for one image, over the extended reals: the vocabulary of the value claim. Nothing
  here mentions blocks, tiles or buffers.
-/
module

public import Idealize.ShloMosaic.PureOps.Ideal

@[expose] public section

noncomputable section

namespace NetVlad

open Idealize.ShloMosaic
open scoped BigOperators

/-- The reference's guard against a zero norm: the real number its single-precision literal denotes. -/
def eps : EReal := ((2305843 / 2305843009213693952 : ℝ) : EReal)
/-- The kernel's guard under the square root: the square of `eps`. -/
def eps2 : EReal := ((5316911940649 / 5316911983139663491615228241121378304 : ℝ) : EReal)

/-- The squared length of a vector. -/
def sumSq (x : Fin 128 → EReal) : EReal := ∑ d, x d * x d
/-- The kernel's factor that normalizes a vector. -/
def invNorm (x : Fin 128 → EReal) : EReal := Ideal.rsqrt (max (sumSq x) eps2)

/-- The kernel's logit of cluster `k` for a position's vector `x`. -/
def logit (w : Fin 64 → Fin 128 → EReal) (b : Fin 64 → EReal) (x : Fin 128 → EReal) (k : Fin 64) : EReal :=
  (∑ d, w k d * x d) * invNorm x + b k
/-- The largest of the 64 logits. -/
def largest (l : Fin 64 → EReal) : EReal := Finset.univ.fold max ⊥ l
/-- The exponential of a logit less the largest. -/
def expAt (l : Fin 64 → EReal) (k : Fin 64) : EReal := Ideal.exp (l k - largest l)
/-- The kernel's soft assignment of a position to cluster `k`. -/
def soft (l : Fin 64 → EReal) (k : Fin 64) : EReal := expAt l k * Ideal.div 1 (∑ k', expAt l k')

/-- What a position adds to the first accumulator at cluster `k` and channel `d`. -/
def firstTerm (w : Fin 64 → Fin 128 → EReal) (b : Fin 64 → EReal) (x : Fin 128 → EReal) (k : Fin 64) (d : Fin 128) : EReal :=
  (soft (logit w b x) k * invNorm x) * x d

/-- The residual: the first accumulator less the assignment sums times the centroids. -/
def resid (a : Fin 64 → Fin 128 → EReal) (s : Fin 64 → EReal) (ct : Fin 64 → Fin 128 → EReal) (k : Fin 64) (d : Fin 128) : EReal :=
  a k d - s k * ct k d
/-- The squared length of the residuals once each is normalized. -/
def total (v : Fin 64 → Fin 128 → EReal) : EReal := ∑ k, min (Ideal.div (sumSq (v k)) eps2) 1
/-- The kernel's two normalizations in one factor. -/
def finish (v : Fin 64 → Fin 128 → EReal) (k : Fin 64) (d : Fin 128) : EReal :=
  v k d * (Ideal.rsqrt (max (sumSq (v k)) eps2) * Ideal.rsqrt (max (total v) eps2))

/-! ## The reference's own arrangement -/

/-- The reference's divisor: the length of a vector, or the guard where it is shorter. -/
def refNorm (x : Fin 128 → EReal) : EReal := max (Ideal.sqrt (sumSq x)) eps
/-- A vector normalized. -/
def unit (x : Fin 128 → EReal) (d : Fin 128) : EReal := Ideal.div (x d) (refNorm x)
/-- The reference's logit of cluster `k`. -/
def refLogit (w : Fin 64 → Fin 128 → EReal) (b : Fin 64 → EReal) (x : Fin 128 → EReal) (k : Fin 64) : EReal :=
  (∑ d, unit x d * w k d) + b k
/-- The reference's soft assignment, times the position's mask `μ`. -/
def refSoft (l : Fin 64 → EReal) (μ : EReal) (k : Fin 64) : EReal := Ideal.div (expAt l k) (∑ k', expAt l k') * μ
/-- What a position adds to the reference's first accumulator. -/
def refTerm (w : Fin 64 → Fin 128 → EReal) (b : Fin 64 → EReal) (μ : EReal) (x : Fin 128 → EReal) (k : Fin 64) (d : Fin 128) : EReal :=
  refSoft (refLogit w b x) μ k * unit x d
/-- The length of all residuals together, each normalized, or the guard. -/
def refTotal (v : Fin 64 → Fin 128 → EReal) : EReal := max (Ideal.sqrt (∑ k, sumSq (unit (v k)))) eps
/-- The reference's two normalizations one after the other. -/
def refFinish (v : Fin 64 → Fin 128 → EReal) (k : Fin 64) (d : Fin 128) : EReal := Ideal.div (unit (v k) d) (refTotal v)

end NetVlad
-- ==== Proof.Payload.lean ====
/-
  One image's block computations read at an index over the extended reals: they are the functions of `Plain.lean`.
-/
module

public import proofs.«01_k».proof.Proof.Images
public import proofs.«01_k».proof.Proof.Plain
public import Idealize.ShloMosaic.PureOps.Ideal.Laws
public import Idealize.ShloMosaic.Lib.MatmulPlain
public import Idealize.ShloMosaic.Lib.IdealHost

@[expose] public section

noncomputable section

namespace Cert.KernelIdeal.Images

open Cert.KernelIdeal Cert.KernelIdeal.Gen Idealize.ShloMosaic Idealize.ShloMosaic.TcCoe
open Idealize.ShloMosaic.ValueIdx Idealize.ShloMosaic.Pipeline NetVlad
open scoped BigOperators

/-- The named constant is the square of the reference's guard. -/
theorem eps_named : (Named.named (F := Ideal) κ "eps_sq" 0x179ABE15#32 : Ideal .f32) = eps2 :=
  IdealRules.named_const.ideal_named_scalar _ _ _ _ rfl

theorem one_bits : (Scalar.ofBits .f32 0x3F800000#32 : Ideal .f32) = (1 : EReal) := Ideal.ofBits_one_f32
theorem neg_inf_bits : Ideal.ofBits .f32 0xFF800000#32 = ⊥ := by simp [Ideal.ofBits, Ideal.ieee]

section Layout

variable {α : Type}

/-- A row repeated down a table. -/
theorem row_at {n m : Nat} (hn : n ≠ 1) (v : (⟨2, ![1, n]⟩ : Shape).Idx → α)
    (h : (⟨2, ![1, n]⟩ : Shape).Broadcasts ⟨2, ![m, n]⟩) (k : Fin m) (r : Fin n) :
    broadcastTo ⟨2, ![m, n]⟩ v h (ix2 k r) = v (ix2 (0 : Fin 1) r) :=
  broadcastTo_apply v h _ _ fun a => by
    match a with
    | ⟨0, _⟩ => rfl
    | ⟨1, _⟩ => exact (if_neg hn).symm

/-- A column repeated along a table. -/
theorem col_at {n m : Nat} (hm : m ≠ 1) (v : (⟨2, ![m, 1]⟩ : Shape).Idx → α)
    (h : (⟨2, ![m, 1]⟩ : Shape).Broadcasts ⟨2, ![m, n]⟩) (k : Fin m) (r : Fin n) :
    broadcastTo ⟨2, ![m, n]⟩ v h (ix2 k r) = v (ix2 k (0 : Fin 1)) :=
  broadcastTo_apply v h _ _ fun a => by
    match a with
    | ⟨0, _⟩ => exact (if_neg hm).symm
    | ⟨1, _⟩ => rfl

/-- A list as a row. -/
theorem asRow_at {n : Nat} (v : (⟨1, ![n]⟩ : Shape).Idx → α) (h : (⟨1, ![n]⟩ : Shape).ShapeCasts ⟨2, ![1, n]⟩) (u : Fin 1) (r : Fin n) :
    shapeCast ⟨2, ![1, n]⟩ v h (ix2 u r) = v (ix1 r) :=
  shapeCast_apply v h _ _ (by
    rw [Shape.rowMajor_val_one, Shape.rowMajor_val_two]
    show r.val = u.val * n + r.val
    have : u.val = 0 := by omega
    rw [this]; omega)

/-- A list as a column. -/
theorem asCol_at {n : Nat} (v : (⟨1, ![n]⟩ : Shape).Idx → α) (h : (⟨1, ![n]⟩ : Shape).ShapeCasts ⟨2, ![n, 1]⟩) (r : Fin n) (u : Fin 1) :
    shapeCast ⟨2, ![n, 1]⟩ v h (ix2 r u) = v (ix1 r) :=
  shapeCast_apply v h _ _ (by
    rw [Shape.rowMajor_val_one, Shape.rowMajor_val_two]
    show r.val = r.val * 1 + u.val
    omega)

end Layout

variable (w : Vec Ideal S64x128 .f32) (b : Vec Ideal S64x1 .f32) (x : Vec Ideal S1x1024x128 .f32)

/-- The weights, the biases and an image's vectors by coordinates. -/
abbrev wOf (k : Fin 64) (d : Fin 128) : EReal := w (ix2 k d)
abbrev bOf (k : Fin 64) : EReal := b (ix2 k (0 : Fin 1))
abbrev xOf (r : Fin 1024) (d : Fin 128) : EReal := x (ix3 (0 : Fin 1) r d)

theorem pay30_at (r : Fin 1024) (d : Fin 128) : k0_pay30 x (ix2 r d) = xOf x r d :=
  (shapeCast_dropUnit_apply ![1024, 128] x _ (ix2 r d)).trans
    (congrArg x (funext fun a => by match a with | ⟨0, _⟩ => rfl | ⟨1, _⟩ => rfl | ⟨2, _⟩ => rfl))

theorem pay31_at (d : Fin 128) (r : Fin 1024) : k0_pay31 x (ix2 d r) = xOf x r d := by
  refine (transpose_apply _ _ _ (ix2 d r) (ix2 r d) fun a => ?_).trans (pay30_at x r d)
  match a with
  | ⟨0, _⟩ => rfl
  | ⟨1, _⟩ => rfl

theorem pay29_at (k : Fin 64) : k0_pay29 b (ix2 k (0 : Fin 1)) = bOf b k := by
  unfold k0_pay29
  rw [shapeCast_self]

/-- The normalizing factor of position `r`. -/
theorem pay32_at (r : Fin 1024) : k0_pay32 x (ix2 (0 : Fin 1) r) = invNorm (xOf x r) := by
  unfold k0_pay32
  dsimp only
  show Ideal.rsqrt (max (shapeCast S1x1024 _ shapeCasts_S1024_S1x1024 (ix2 (0 : Fin 1) r)) (Named.named (F := Ideal) κ "eps_sq" 0x179ABE15#32 : Ideal .f32)) = _
  rw [eps_named, asRow_at]
  unfold invNorm sumSq
  congr 2
  refine (Ideal.multiReduction_add_single _ _ _ _ _ _).trans (Finset.sum_congr rfl fun d _ => ?_)
  have e : (reduces_S128x1024_S1024.lift (ix1 r) d : S128x1024.Idx) = ix2 d r :=
    funext fun a => Fin.ext (by match a with | ⟨0, _⟩ => rfl | ⟨1, _⟩ => rfl)
  rw [e]
  exact congrArg₂ (· * ·) (pay31_at x d r) (pay31_at x d r)

/-- The largest logit of each position. -/
theorem largest_at (l : FVec Ideal S64x1024 .f32) (r : Fin 1024) :
    multiReduction (F := Ideal) (φ := .f32) .maximumf [0] S1024 l 0xFF800000#32 reduces_S64x1024_S1024 (.inl rfl) rfl (ix1 r)
      = largest fun k => l (ix2 k r) := by
  refine (Ideal.multiReduction_maximumf_single _ _ _ _ _ _).trans ?_
  have e : (l ∘ reduces_S64x1024_S1024.lift (ix1 r) : Fin 64 → EReal) = fun k => l (ix2 k r) :=
    funext fun k => congrArg l (funext fun a => Fin.ext (by match a with | ⟨0, _⟩ => rfl | ⟨1, _⟩ => rfl))
  show Finset.univ.fold max (Ideal.ofBits .f32 0xFF800000#32) (l ∘ reduces_S64x1024_S1024.lift (ix1 r) : Fin 64 → EReal) = _
  rw [e, neg_inf_bits]
  rfl

/-- The exponentials of a table of logits. -/
abbrev expTable (l : FVec Ideal S64x1024 .f32) : FVec Ideal S64x1024 .f32 :=
  exp (subf l (broadcastTo S64x1024
    (shapeCast S1x1024 (multiReduction (F := Ideal) (φ := .f32) .maximumf [0] S1024 l 0xFF800000#32 reduces_S64x1024_S1024 (.inl rfl) rfl) shapeCasts_S1024_S1x1024)
    broadcasts_S1x1024_S64x1024))

theorem expTable_at (l : FVec Ideal S64x1024 .f32) (k : Fin 64) (r : Fin 1024) :
    expTable l (ix2 k r) = expAt (fun k => l (ix2 k r)) k := by
  show Ideal.exp (l (ix2 k r) - broadcastTo S64x1024 _ broadcasts_S1x1024_S64x1024 (ix2 k r)) = _
  rw [row_at (by decide), asRow_at, largest_at]
  rfl

/-- The logits of a chunk. -/
abbrev logitTable : FVec Ideal S64x1024 .f32 :=
  addf (mulf (matmul (F := Ideal) (φ₁ := .f32) (φ₂ := .f32) dot_S64x128_S128x1024_S64x1024_1_0_0_1_n_n none w (k0_pay31 x) (constant S64x1024 .f32 0x00000000#32))
      (broadcastTo S64x1024 (k0_pay32 x) broadcasts_S1x1024_S64x1024))
    (broadcastTo S64x1024 (k0_pay29 b) broadcasts_S64x1_S64x1024)

theorem logitTable_at (k : Fin 64) (r : Fin 1024) :
    logitTable w b x (ix2 k r) = logit (wOf w) (bOf b) (xOf x r) k := by
  unfold logitTable
  rw [addf_apply, mulf_apply, row_at (by decide), col_at (by decide), pay32_at, pay29_at]
  unfold logit
  congr 2
  refine (Ideal.matmul_plain_apply none w (k0_pay31 x) _ k r).trans ?_
  rw [constant_apply, Ideal.ofBits_zero_f32, zero_add]
  exact Finset.sum_congr rfl fun d _ => congrArg (w (ix2 k d) * ·) (pay31_at x d r)

/-- The soft assignment of position `r` to cluster `k`. -/
theorem pay33_at (k : Fin 64) (r : Fin 1024) :
    k0_pay33 w b x (ix2 k r) = soft (logit (wOf w) (bOf b) (xOf x r)) k := by
  have hl : (fun k => logitTable w b x (ix2 k r)) = logit (wOf w) (bOf b) (xOf x r) :=
    funext fun k => logitTable_at w b x k r
  show expTable (logitTable w b x) (ix2 k r) * broadcastTo S64x1024 (divf (F := Ideal) (φ := .f32) (broadcast S1x1024 (Scalar.ofBits .f32 0x3F800000#32))
      (matmul (F := Ideal) (φ₁ := .f32) (φ₂ := .f32) dot_S1x64_S64x1024_S1x1024_1_0_0_1_n_n none (broadcast S1x64 (Scalar.ofBits .f32 0x3F800000#32)) (expTable (logitTable w b x))
        (constant S1x1024 .f32 0x00000000#32))) broadcasts_S1x1024_S64x1024 (ix2 k r) = _
  rw [row_at (by decide), divf_apply, broadcast_apply, one_bits, expTable_at, hl]
  unfold soft
  congr 2
  refine (Ideal.matmul_plain_apply none _ _ _ (0 : Fin 1) r).trans ?_
  rw [constant_apply, Ideal.ofBits_zero_f32, zero_add]
  refine Finset.sum_congr rfl fun k' _ => ?_
  rw [broadcast_apply, one_mul, expTable_at, hl]

/-- The chunk's first term. -/
theorem pay34_at (k : Fin 64) (d : Fin 128) :
    k0_pay34 w b x (ix2 k d) = ∑ r : Fin 1024, firstTerm (wOf w) (bOf b) (xOf x r) k d := by
  unfold k0_pay34
  refine (Ideal.matmul_plain_apply none _ _ _ k d).trans ?_
  rw [constant_apply, Ideal.ofBits_zero_f32, zero_add]
  refine Finset.sum_congr rfl fun r _ => ?_
  rw [pay30_at, mulf_apply, row_at (by decide), pay33_at, pay32_at]
  rfl

/-- The chunk's assignment sums. -/
theorem pay35_at (k : Fin 64) (u : Fin 1) :
    k0_pay35 w b x (ix2 k u) = ∑ r : Fin 1024, soft (logit (wOf w) (bOf b) (xOf x r)) k := by
  unfold k0_pay35
  refine (Ideal.matmul_plain_apply none _ _ _ k u).trans ?_
  rw [constant_apply, Ideal.ofBits_zero_f32, zero_add]
  refine Finset.sum_congr rfl fun r _ => ?_
  rw [pay33_at, broadcast_apply, one_bits, mul_one]

/-! ## The last chunk's normalizations -/

section Finish

variable (ct : Vec Ideal S64x128 .f32) (a : Vec Ideal S1x64x128 .f32) (s : Vec Ideal S1x64x1 .f32)

/-- The residuals by coordinates. -/
abbrev residOf : Fin 64 → Fin 128 → EReal :=
  resid (fun k d => a (ix3 (0 : Fin 1) k d)) (fun k => s (ix3 (0 : Fin 1) k (0 : Fin 1))) (fun k d => ct (ix2 k d))

/-- The residuals as the block computes them. -/
abbrev residTable : FVec Ideal S64x128 .f32 :=
  subf (shapeCast S64x128 a shapeCasts_S1x64x128_S64x128)
    (mulf (broadcastTo S64x128 (shapeCast S64x1 s shapeCasts_S1x64x1_S64x1) broadcasts_S64x1_S64x128) ct)

theorem residTable_at (k : Fin 64) (d : Fin 128) : residTable ct a s (ix2 k d) = residOf ct a s k d := by
  unfold residTable
  rw [subf_apply, mulf_apply, col_at (by decide)]
  exact congrArg₂ (fun p q => p - q * ct (ix2 k d)) (drop_unit (F := Ideal) a _ _) (drop_unit (F := Ideal) s _ _)

/-- The squared lengths of a table's rows, as a column. -/
abbrev sumSqTable (v : FVec Ideal S64x128 .f32) : FVec Ideal S64x1 .f32 :=
  shapeCast S64x1 (multiReduction (F := Ideal) (φ := .f32) .add [1] S64 (mulf v v) 0x00000000#32 reduces_S64x128_S64 (.inl rfl) rfl) shapeCasts_S64_S64x1

theorem sumSqTable_at (v : FVec Ideal S64x128 .f32) (k : Fin 64) (u : Fin 1) :
    sumSqTable v (ix2 k u) = sumSq fun d => v (ix2 k d) := by
  unfold sumSqTable sumSq
  rw [asCol_at]
  refine (Ideal.multiReduction_add_single _ _ _ _ _ _).trans (Finset.sum_congr rfl fun d _ => ?_)
  have e : (reduces_S64x128_S64.lift (ix1 k) d : S64x128.Idx) = ix2 k d :=
    funext fun a => Fin.ext (by match a with | ⟨0, _⟩ => rfl | ⟨1, _⟩ => rfl)
  rw [e]
  rfl

/-- A column's sum, taken over the two axes of its one-row form. -/
theorem colSum_at (v : FVec Ideal S64x1 .f32) :
    extractAt ![0, 0, 0] (shapeCast S1x1x1 (multiReduction (F := Ideal) (φ := .f32) .add [1, 2] S1
      (shapeCast S1x64x1 v shapeCasts_S64x1_S1x64x1) 0x00000000#32 reduces_S1x64x1_S1 (.inl rfl) rfl) shapeCasts_S1_S1x1x1) inpos_S1x1x1_p0_0_0
      = ∑ k : Fin 64, (v (ix2 k (0 : Fin 1)) : EReal) := by
  have h1 : ∀ j : S1.Idx, multiReduction (F := Ideal) (φ := .f32) .add [1, 2] S1
      (shapeCast S1x64x1 v shapeCasts_S64x1_S1x64x1) 0x00000000#32 reduces_S1x64x1_S1 (.inl rfl) rfl j = ∑ k : Fin 64, (v (ix2 k (0 : Fin 1)) : EReal) := by
    intro j
    refine (Ideal.multiReduction_add_total _ _ _ (by decide) _ _ _).trans ?_
    refine (Equiv.sum_comp (Shape.reshapeEquiv shapeCasts_S64x1_S1x64x1) v).trans ?_
    rw [sum_idx2]
    exact Finset.sum_congr rfl fun k _ => Fin.sum_univ_one _
  exact h1 _

/-- The finished block of one image. -/
theorem pay9_at (k : Fin 64) (d : Fin 128) :
    k0_pay9 ct a s (ix3 (0 : Fin 1) k d) = finish (residOf ct a s) k d := by
  have hr : ∀ k, (fun d => residTable ct a s (ix2 k d)) = residOf ct a s k := fun k => funext fun d => residTable_at ct a s k d
  unfold k0_pay9
  refine (add_unit (F := Ideal) _ _ _).trans ?_
  show residTable ct a s (ix2 k d) * broadcastTo S64x128 _ broadcasts_S64x1_S64x128 (ix2 k d) = _
  rw [residTable_at, col_at (by decide)]
  unfold finish
  congr 1
  show Ideal.rsqrt (max (sumSqTable (residTable ct a s) (ix2 k (0 : Fin 1))) (Named.named (F := Ideal) κ "eps_sq" 0x179ABE15#32 : Ideal .f32))
    * broadcastTo S64x1 _ broadcasts_S1x1_S64x1 (ix2 k (0 : Fin 1)) = _
  rw [eps_named, sumSqTable_at, hr]
  congr 1
  refine (broadcastTo_apply _ _ _ (ix2 (0 : Fin 1) (0 : Fin 1)) fun a => by match a with | ⟨0, _⟩ => rfl | ⟨1, _⟩ => rfl).trans ?_
  refine congrArg (fun e => Ideal.rsqrt (max e eps2)) ?_
  refine (colSum_at _).trans (Finset.sum_congr rfl fun k _ => ?_)
  show min (Ideal.div (sumSqTable (residTable ct a s) (ix2 k (0 : Fin 1))) (Named.named (F := Ideal) κ "eps_sq" 0x179ABE15#32 : Ideal .f32)) (Scalar.ofBits .f32 0x3F800000#32 : Ideal .f32) = _
  rw [eps_named, sumSqTable_at, hr, one_bits]

end Finish

end Cert.KernelIdeal.Images
-- ==== Proof.Kernel.lean ====
/-
  What the kernel's result array holds over the extended reals, at an index: the functions of `Plain.lean` of the launched
  arrays, the four chunks of an image joined into one sum over its 4096 positions.
-/
module

public import proofs.«01_k».proof.Proof.Blocks
public import proofs.«01_k».proof.Proof.Payload

@[expose] public section

noncomputable section

namespace Cert.KernelIdeal.Images

open Cert.KernelIdeal Cert.KernelIdeal.Gen Cert.KernelIdeal.Value Idealize.ShloMosaic Idealize.ShloMosaic.TcCoe
open Idealize.SL.Sem Idealize.ShloMosaic.ValueIdx NetVlad
open scoped BigOperators

/-- Four chunks of 1024 positions are the 4096 positions. -/
theorem sum_chunks (f : Fin 4096 → EReal) :
    (∑ r, f (pos 0 r)) + (∑ r, f (pos 1 r)) + (∑ r, f (pos 2 r)) + (∑ r, f (pos 3 r)) = ∑ p, f p := by
  have h : ∑ jr : Fin 4 × Fin 1024, f (pos jr.1 jr.2) = ∑ p, f p :=
    Fintype.sum_equiv (finProdFinEquiv (m := 4) (n := 1024)) _ f fun jr =>
      congrArg f (Fin.ext (show 1024 * jr.1.val + jr.2.val = jr.2.val + 1024 * jr.1.val by omega))
  rw [← h, Fintype.sum_prod_type, Fin.sum_univ_four]

variable (m : (ℓ : Loc nD τ sig) → Buf (Elt Ideal) ℓ) (c : Dev nD)

/-- The launched arrays by coordinates. -/
abbrev xArr (n : Fin 64) (p : Fin 4096) (d : Fin 128) : EReal := m ((c : Thread nD τ).loc main_arg0) (ix3 n p d)
abbrev cArr (k : Fin 64) (d : Fin 128) : EReal := m ((c : Thread nD τ).loc main_arg1) (ix2 k d)
abbrev wArr (k : Fin 64) (d : Fin 128) : EReal := m ((c : Thread nD τ).loc main_arg2) (ix2 k d)
abbrev bArr (k : Fin 64) : EReal := m ((c : Thread nD τ).loc main_arg3) (ix1 k)

theorem wOf_eq (t : Fin cfg0.N) : wOf (wBlk m c t) = wArr m c := funext fun k => funext fun d => wBlk_at m c t k d
theorem bOf_eq (t : Fin cfg0.N) : bOf (bBlk m c t) = bArr m c := funext fun k => bBlk_at m c t k 0
theorem xOf_eq (q : Fin 8) (j : Fin 4) (g : Fin 8) (r : Fin 1024) :
    xOf (imgX (xBlk m c (pt q j)) g) r = xArr m c (img q g) (pos j r) := funext fun d => xBlk_at m c q j g r d

theorem firstAt_at (q : Fin 8) (j : Fin 4) (g : Fin 8) (k : Fin 64) (d : Fin 128) :
    firstAt m c (pt q j) (ix3 g k d) = ∑ r, firstTerm (wArr m c) (bArr m c) (xArr m c (img q g) (pos j r)) k d := by
  refine (pay34_at _ _ _ k d).trans (Finset.sum_congr rfl fun r _ => ?_)
  rw [wOf_eq, bOf_eq, ← xOf_eq]

theorem sumsAt_at (q : Fin 8) (j : Fin 4) (g : Fin 8) (k : Fin 64) (u : Fin 1) :
    sumsAt m c (pt q j) (ix3 g k u) = ∑ r, soft (logit (wArr m c) (bArr m c) (xArr m c (img q g) (pos j r))) k := by
  refine (pay35_at _ _ _ k u).trans (Finset.sum_congr rfl fun r _ => ?_)
  rw [wOf_eq, bOf_eq, ← xOf_eq]

/-- The first accumulator of image `n`. -/
abbrev firstArr (n : Fin 64) (k : Fin 64) (d : Fin 128) : EReal :=
  ∑ p, firstTerm (wArr m c) (bArr m c) (xArr m c n p) k d
/-- The assignment sums of image `n`. -/
abbrev sumsArr (n : Fin 64) (k : Fin 64) : EReal := ∑ p, soft (logit (wArr m c) (bArr m c) (xArr m c n p)) k

theorem firstSum_at (q g : Fin 8) (k : Fin 64) (d : Fin 128) :
    firstSum m c q (ix3 g k d) = firstArr m c (img q g) k d := by
  unfold firstSum firstArr
  rw [addf_apply, addf_apply, addf_apply, firstAt_at, firstAt_at, firstAt_at, firstAt_at]
  exact sum_chunks fun p => firstTerm (wArr m c) (bArr m c) (xArr m c (img q g) p) k d

theorem sumsSum_at (q g : Fin 8) (k : Fin 64) (u : Fin 1) :
    sumsSum m c q (ix3 g k u) = sumsArr m c (img q g) k := by
  unfold sumsSum sumsArr
  rw [addf_apply, addf_apply, addf_apply, sumsAt_at, sumsAt_at, sumsAt_at, sumsAt_at]
  exact sum_chunks fun p => soft (logit (wArr m c) (bArr m c) (xArr m c (img q g) p)) k

/-- **The result array.** Cluster `k`, channel `d` of image `n`. -/
theorem kernel_at (n : Fin 64) (k : Fin 64) (d : Fin 128) :
    G4 m c (ix3 n k d) = finish (resid (firstArr m c n) (sumsArr m c n) (cArr m c)) k d := by
  let q : Fin 8 := ⟨n.val / 8, by omega⟩
  let g : Fin 8 := ⟨n.val % 8, by omega⟩
  have hn : img q g = n := Fin.ext (show 8 * (n.val / 8) + n.val % 8 = n.val by omega)
  have hl : loc4Of (ix3 n k d) = ix3 g k d := funext fun a => Fin.ext (by
    match a with
    | ⟨0, _⟩ => rfl
    | ⟨1, _⟩ => exact Nat.mod_eq_of_lt k.isLt
    | ⟨2, _⟩ => exact Nat.mod_eq_of_lt d.isLt)
  rw [result_at m c q (ix3 n k d) rfl, hl]
  refine (pay9_at _ _ _ k d).trans ?_
  have hr : residOf (cBlk m c (pt q 3)) (imgT (firstSum m c q) g) (imgC (sumsSum m c q) g)
      = resid (firstArr m c n) (sumsArr m c n) (cArr m c) := by
    funext k d
    show firstSum m c q (ix3 g k d) - sumsSum m c q (ix3 g k (0 : Fin 1)) * cBlk m c (pt q 3) (ix2 k d) = _
    rw [firstSum_at, sumsSum_at, cBlk_at, hn]
    rfl
  exact congrArg (fun v => finish v k d) hr

end Cert.KernelIdeal.Images
-- ==== Proof.Real.lean ====
/-
  The operations of the two programs on real numbers: the guard of the kernel (under the root) and that of the reference
  (over the root) are the same number, and a division by a real number other than zero is a product.
-/
module

public import proofs.«01_k».proof.Proof.Plain
public import Idealize.ShloMosaic.PureOps.Ideal.Laws
public import Idealize.ShloMosaic.Lib.IdealHost

@[expose] public section

noncomputable section

namespace NetVlad

open Idealize.ShloMosaic
open scoped BigOperators

/-- The guard as a real number. -/
def guard : ℝ := 2305843 / 2305843009213693952

theorem guard_pos : 0 < guard := by unfold guard; norm_num
theorem eps_guard : eps = (guard : EReal) := rfl
theorem eps2_guard : eps2 = ((guard * guard : ℝ) : EReal) := by
  unfold eps2 guard
  congr 1
  norm_num

/-- The guard's literal denotes the real number `eps`. -/
theorem eps_bits : Ideal.ofBits .f32 0x2B8CBCCC#32 = eps := by
  simp [Ideal.ofBits, Ideal.ieee, eps]
  norm_cast
  norm_num

/-- The larger of a length `√s` and the guard. -/
def clipped (s : ℝ) : ℝ := max (Real.sqrt s) guard

theorem clipped_pos (s : ℝ) : 0 < clipped s := lt_max_of_lt_right guard_pos

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum times a real number that is not negative, term by term: also where terms are infinite. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

theorem div_real (a b : ℝ) (hb : b ≠ 0) : Ideal.div (a : EReal) (b : EReal) = ((a / b : ℝ) : EReal) := by
  rw [Ideal.div_coe hb, ← EReal.coe_mul, mul_one_div]

/-- The root of the larger of `s` and the guard's square is the larger of `√s` and the guard. -/
theorem sqrt_guard (s : ℝ) : Real.sqrt (max s (guard * guard)) = clipped s := by
  rw [Real.sqrt_monotone.map_max, Real.sqrt_mul_self guard_pos.le]
  rfl

theorem rsqrt_clipped (s : ℝ) : Ideal.rsqrt (max (s : EReal) eps2) = (((clipped s)⁻¹ : ℝ) : EReal) := by
  have h : 0 < max s (guard * guard) := lt_max_of_lt_right (mul_pos guard_pos guard_pos)
  rw [eps2_guard, coe_max, Ideal.rsqrt_coe, if_neg (not_lt.mpr h.le), if_neg h.ne', sqrt_guard]

theorem sqrt_clipped (s : ℝ) (hs : 0 ≤ s) : max (Ideal.sqrt (s : EReal)) eps = ((clipped s : ℝ) : EReal) := by
  rw [Ideal.sqrt_coe, if_neg (not_lt.mpr hs), eps_guard, coe_max]
  rfl

/-- The squared length of a real vector. -/
def sq (y : Fin 128 → ℝ) : ℝ := ∑ d, y d * y d

theorem sq_nonneg' (y : Fin 128 → ℝ) : 0 ≤ sq y := Finset.sum_nonneg fun d _ => mul_self_nonneg (y d)

theorem sumSq_coe (y : Fin 128 → ℝ) : sumSq (fun d => (y d : EReal)) = (sq y : EReal) := by
  unfold sumSq sq
  rw [← coe_sum]
  exact Finset.sum_congr rfl fun d _ => (EReal.coe_mul _ _).symm

theorem invNorm_coe (y : Fin 128 → ℝ) : invNorm (fun d => (y d : EReal)) = (((clipped (sq y))⁻¹ : ℝ) : EReal) := by
  unfold invNorm
  rw [sumSq_coe, rsqrt_clipped]

theorem unit_coe (y : Fin 128 → ℝ) (d : Fin 128) :
    unit (fun d => (y d : EReal)) d = ((y d / clipped (sq y) : ℝ) : EReal) := by
  unfold unit refNorm
  rw [sumSq_coe, sqrt_clipped _ (sq_nonneg' y), div_real _ _ (clipped_pos _).ne']

/-- **Normalizing a vector, whatever it holds.** The kernel's factor is a real number that is not negative, and the vector
    times it is the reference's quotient, whose entries are real. -/
theorem normalize (x : Fin 128 → EReal) : ∃ (r : ℝ) (u : Fin 128 → ℝ), 0 ≤ r ∧ invNorm x = (r : EReal)
    ∧ ∀ d, x d * (r : EReal) = (u d : EReal) ∧ unit x d = (u d : EReal) := by
  by_cases ht : sumSq x = ⊤
  · refine ⟨0, fun _ => 0, le_refl _, ?_, fun d => ⟨?_, ?_⟩⟩
    · unfold invNorm
      rw [ht, max_eq_left le_top, Ideal.rsqrt_top, EReal.coe_zero]
    · rw [EReal.coe_zero, mul_zero]
    · unfold unit refNorm
      rw [ht, show Ideal.sqrt ⊤ = ⊤ from rfl, max_eq_left le_top]
      unfold Ideal.div
      rw [if_neg EReal.top_ne_zero, EReal.inv_top, mul_zero, EReal.coe_zero]
  · have hnn : ∀ e : EReal, 0 ≤ e * e := fun e => by
      rcases le_total 0 e with h | h
      · exact mul_nonneg h h
      · rw [← neg_mul_neg]
        exact mul_nonneg (EReal.neg_nonneg.mpr h) (EReal.neg_nonneg.mpr h)
    have hle : ∀ d, x d * x d ≤ sumSq x := fun d =>
      Finset.single_le_sum (f := fun d => x d * x d) (fun e _ => hnn (x e)) (Finset.mem_univ d)
    have hfin : ∀ d, ∃ y : ℝ, x d = (y : EReal) := fun d => by
      have h : x d * x d ≠ ⊤ := fun h => ht (top_le_iff.mp (h ▸ hle d))
      generalize x d = e at h
      induction e with
      | bot => exact absurd EReal.bot_mul_bot h
      | top => exact absurd EReal.top_mul_top h
      | coe y => exact ⟨y, rfl⟩
    choose y hy using hfin
    obtain rfl : x = fun d => (y d : EReal) := funext hy
    refine ⟨(clipped (sq y))⁻¹, fun d => y d / clipped (sq y), inv_nonneg.mpr (clipped_pos _).le, invNorm_coe y, fun d => ⟨?_, unit_coe y d⟩⟩
    show _ = ((y d / clipped (sq y) : ℝ) : EReal)
    rw [div_eq_mul_inv, EReal.coe_mul]

end NetVlad
-- ==== Proof.Reference.lean ====
/-
  What the reference's result holds over the extended reals, at an index: the functions of `Plain.lean`, read off the
  operations of the reference one after the other.
-/
module

public import proofs.«01_k».proof.Proof.Gen.ReferenceIdeal.Read
public import proofs.«01_k».proof.Proof.Real

@[expose] public section

noncomputable section

namespace Cert.ReferenceIdeal.Images

open Cert.ReferenceIdeal Cert.ReferenceIdeal.Gen Cert.ReferenceIdeal.Read Idealize.ShloMosaic Idealize.ShloMosaic.TcCoe
open Idealize.ShloMosaic.ValueIdx NetVlad
open scoped BigOperators

theorem neg_inf_bits : Ideal.ofBits .f32 0xFF800000#32 = ⊥ := by simp [Ideal.ofBits, Ideal.ieee]

variable (x0 : (⟨S64x4096x128, .f32⟩ : BufTy).Contents (Elt Ideal)) (x1 x2 : (⟨S64x128, .f32⟩ : BufTy).Contents (Elt Ideal))
  (x3 : (⟨S64, .f32⟩ : BufTy).Contents (Elt Ideal)) (x4 : (⟨S64x4096, .f32⟩ : BufTy).Contents (Elt Ideal))

/-- The arguments by coordinates. -/
abbrev xArr (n : Fin 64) (p : Fin 4096) (d : Fin 128) : EReal := x0 (ix3 n p d)
abbrev cArr (k : Fin 64) (d : Fin 128) : EReal := x1 (ix2 k d)
abbrev wArr (k : Fin 64) (d : Fin 128) : EReal := x2 (ix2 k d)
abbrev bArr (k : Fin 64) : EReal := x3 (ix1 k)
abbrev maskArr (n : Fin 64) (p : Fin 4096) : EReal := x4 (ix2 n p)

theorem idx3_ext {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

theorem idx2_ext {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

theorem idx1_ext {n0 : Nat} {i j : (⟨1, ![n0]⟩ : Shape).Idx} (h0 : (i 0).val = (j 0).val) : i = j :=
  funext fun a => Fin.ext (by match a with | ⟨0, _⟩ => exact h0)

/-! ## The normalized vectors -/

theorem v7_at (n : Fin 64) (p : Fin 4096) (d : Fin 128) :
    val_main_v7 (F := Ideal) x0 (ix3 n p d) = unit (xArr x0 n p) d := by
  have hs : val_main_v1 (F := Ideal) x0 (ix2 n p) = sumSq (xArr x0 n p) := by
    rw [val_main_v1_apply, val_main_cst_apply]
    refine (congrArg (· + _) Ideal.ofBits_zero_f32).trans ((zero_add _).trans (Finset.sum_congr rfl fun e _ => ?_))
    rw [show idx_main_v1 (ix2 n p) e = ix3 n p e from idx3_ext rfl rfl rfl, val_main_v0_apply]
    rfl
  rw [val_main_v7_apply, val_main_v6_apply, val_main_v5_apply, val_main_v3_apply, val_main_v2_apply, val_main_v4_apply,
    val_main_cst_0_apply, show idx_main_v2 (idx_main_v6 (ix3 n p d)) = ix2 n p from idx2_ext rfl rfl, hs]
  show Ideal.div (x0 (ix3 n p d)) (max (Ideal.sqrt (sumSq (xArr x0 n p))) (Ideal.ofBits .f32 0x2B8CBCCC#32)) = _
  rw [eps_bits]
  rfl

/-! ## The logits and the soft assignments -/

theorem v11_at (n : Fin 64) (p : Fin 4096) (k : Fin 64) :
    val_main_v11 (F := Ideal) x0 x2 x3 (ix3 n p k) = refLogit (wArr x2) (bArr x3) (xArr x0 n p) k := by
  rw [val_main_v11_apply, val_main_v8_apply, val_main_v10_apply, val_main_v9_apply]
  refine congrArg₂ (· + ·) (Finset.sum_congr rfl fun d _ => ?_) (congrArg x3 (idx1_ext rfl))
  rw [show lidx_main_v8 (ix3 n p k) d = ix3 n p d from idx3_ext rfl rfl rfl, v7_at,
    show ridx_main_v8 (ix3 n p k) d = ix2 k d from idx2_ext rfl rfl]

theorem v14_at (n : Fin 64) (p : Fin 4096) :
    val_main_v14 (F := Ideal) x0 x2 x3 (ix2 n p) = largest (refLogit (wArr x2) (bArr x3) (xArr x0 n p)) := by
  have h12 : val_main_v12 (F := Ideal) x0 x2 x3 (ix2 n p) = largest (refLogit (wArr x2) (bArr x3) (xArr x0 n p)) := by
    unfold val_main_v12
    have hr : S64x4096x64.Reduces [2] S64x4096 := by decide
    refine (Host.reduce_eq_fold_single (FloatOps.maximumf (F := Ideal) (φ := .f32)) _ _ reducesTo_S64x4096x64_S64x4096_d2 hr h_S_ (ix2 n p)).trans ?_
    have e : (val_main_v11 (F := Ideal) x0 x2 x3 ∘ hr.lift (ix2 n p) : Fin 64 → EReal)
        = refLogit (wArr x2) (bArr x3) (xArr x0 n p) := funext fun k => by
      refine (congrArg (val_main_v11 (F := Ideal) x0 x2 x3) ?_).trans (v11_at x0 x2 x3 n p k)
      exact idx3_ext rfl rfl rfl
    show Finset.univ.fold max (Ideal.ofBits .f32 0xFF800000#32) (val_main_v11 (F := Ideal) x0 x2 x3 ∘ hr.lift (ix2 n p) : Fin 64 → EReal) = _
    rw [e, neg_inf_bits]
    rfl
  rw [val_main_v14_apply, val_main_v13_apply, val_main_cst_2_apply, h12]
  show max (Ideal.ofBits .f32 0xFF800000#32) _ = _
  rw [neg_inf_bits]
  exact bot_sup_eq _

theorem v18_at (n : Fin 64) (p : Fin 4096) (k : Fin 64) :
    val_main_v18 (F := Ideal) x0 x2 x3 (ix3 n p k) = expAt (refLogit (wArr x2) (bArr x3) (xArr x0 n p)) k := by
  rw [val_main_v18_apply, val_main_v17_apply, v11_at, val_main_v16_apply, val_main_v15_apply,
    show idx_main_v15 (idx_main_v16 (ix3 n p k)) = ix2 n p from idx2_ext rfl rfl, v14_at]
  rfl

theorem v25_at (n : Fin 64) (p : Fin 4096) (k : Fin 64) :
    val_main_v25 (F := Ideal) x0 x2 x3 x4 (ix3 n p k)
      = refSoft (refLogit (wArr x2) (bArr x3) (xArr x0 n p)) (maskArr x4 n p) k := by
  have hz : val_main_v19 (F := Ideal) x0 x2 x3 (ix2 n p) = ∑ k', expAt (refLogit (wArr x2) (bArr x3) (xArr x0 n p)) k' := by
    rw [val_main_v19_apply, val_main_cst_3_apply]
    refine (congrArg (· + _) Ideal.ofBits_zero_f32).trans ((zero_add _).trans (Finset.sum_congr rfl fun k' _ => ?_))
    rw [show idx_main_v19 (ix2 n p) k' = ix3 n p k' from idx3_ext rfl rfl rfl, v18_at]
  rw [val_main_v25_apply, val_main_v22_apply, v18_at, val_main_v21_apply, val_main_v20_apply,
    show idx_main_v20 (idx_main_v21 (ix3 n p k)) = ix2 n p from idx2_ext rfl rfl, hz, val_main_v24_apply, val_main_v23_apply,
    show idx_main_v23 (idx_main_v24 (ix3 n p k)) = ix2 n p from idx2_ext rfl rfl]
  rfl

/-! ## The residuals -/

/-- The first accumulator of image `n`, and its assignment sums. -/
abbrev firstArr (n : Fin 64) (k : Fin 64) (d : Fin 128) : EReal :=
  ∑ p, refTerm (wArr x2) (bArr x3) (maskArr x4 n p) (xArr x0 n p) k d
abbrev sumsArr (n : Fin 64) (k : Fin 64) : EReal :=
  ∑ p, refSoft (refLogit (wArr x2) (bArr x3) (xArr x0 n p)) (maskArr x4 n p) k
/-- The residuals of image `n`. -/
abbrev residArr (n : Fin 64) : Fin 64 → Fin 128 → EReal :=
  resid (firstArr x0 x2 x3 x4 n) (sumsArr x0 x2 x3 x4 n) (cArr x1)

theorem v33_at (n : Fin 64) (k : Fin 64) (d : Fin 128) :
    val_main_v33 (F := Ideal) x0 x1 x2 x3 x4 (ix3 n k d) = residArr x0 x1 x2 x3 x4 n k d := by
  have h26 : val_main_v26 (F := Ideal) x0 x2 x3 x4 (ix3 n k d) = firstArr x0 x2 x3 x4 n k d := by
    rw [val_main_v26_apply]
    refine Finset.sum_congr rfl fun p _ => ?_
    rw [show lidx_main_v26 (ix3 n k d) p = ix3 n p k from idx3_ext rfl rfl rfl, v25_at,
      show ridx_main_v26 (ix3 n k d) p = ix3 n p d from idx3_ext rfl rfl rfl, v7_at]
    rfl
  have h27 : val_main_v27 (F := Ideal) x0 x2 x3 x4 (ix2 n k) = sumsArr x0 x2 x3 x4 n k := by
    rw [val_main_v27_apply, val_main_cst_4_apply]
    refine (congrArg (· + _) Ideal.ofBits_zero_f32).trans ((zero_add _).trans (Finset.sum_congr rfl fun p _ => ?_))
    rw [show idx_main_v27 (ix2 n k) p = ix3 n p k from idx3_ext rfl rfl rfl, v25_at]
  rw [val_main_v33_apply, val_main_v32_apply, val_main_v30_apply, val_main_v28_apply,
    show idx_main_v28 (idx_main_v30 (ix3 n k d)) = ix2 n k from idx2_ext rfl rfl, h26, h27, val_main_v31_apply, val_main_v29_apply,
    show idx_main_v29 (idx_main_v31 (ix3 n k d)) = ix2 k d from idx2_ext rfl rfl]
  rfl

/-! ## The two normalizations -/

theorem v41_at (n : Fin 64) (k : Fin 64) (d : Fin 128) :
    val_main_v41 (F := Ideal) x0 x1 x2 x3 x4 (ix3 n k d) = unit (residArr x0 x1 x2 x3 x4 n k) d := by
  have hs : val_main_v35 (F := Ideal) x0 x1 x2 x3 x4 (ix2 n k) = sumSq (residArr x0 x1 x2 x3 x4 n k) := by
    rw [val_main_v35_apply, val_main_cst_5_apply]
    refine (congrArg (· + _) Ideal.ofBits_zero_f32).trans ((zero_add _).trans (Finset.sum_congr rfl fun e _ => ?_))
    rw [show idx_main_v35 (ix2 n k) e = ix3 n k e from idx3_ext rfl rfl rfl, val_main_v34_apply, v33_at]
    rfl
  rw [val_main_v41_apply, val_main_v40_apply, val_main_v39_apply, val_main_v37_apply, val_main_v36_apply, val_main_v38_apply,
    val_main_cst_6_apply, show idx_main_v36 (idx_main_v40 (ix3 n k d)) = ix2 n k from idx2_ext rfl rfl, hs, v33_at]
  show Ideal.div _ (max (Ideal.sqrt _) (Ideal.ofBits .f32 0x2B8CBCCC#32)) = _
  rw [eps_bits]
  rfl

/-- Position `128 k + d` of an image's flat list of residuals. -/
abbrev flat (k : Fin 64) (d : Fin 128) : Fin 8192 := ⟨128 * k.val + d.val, by omega⟩

theorem v42_at (n : Fin 64) (k : Fin 64) (d : Fin 128) :
    val_main_v42 (F := Ideal) x0 x1 x2 x3 x4 (ix2 n (flat k d)) = unit (residArr x0 x1 x2 x3 x4 n k) d := by
  rw [val_main_v42_apply, show idx_main_v42 (ix2 n (flat k d)) = ix3 n k d from idx3_ext
    (show (n.val * 8192 + (128 * k.val + d.val)) / 8192 = n.val by omega)
    (show (n.val * 8192 + (128 * k.val + d.val)) / 128 % 64 = k.val by omega)
    (show (n.val * 8192 + (128 * k.val + d.val)) % 128 = d.val by omega), v41_at]

/-- The flat list is the 64 rows of 128. -/
theorem sum_flat (f : Fin 8192 → EReal) : ∑ q, f q = ∑ k, ∑ d, f (flat k d) := by
  have h : ∑ kd : Fin 64 × Fin 128, f (flat kd.1 kd.2) = ∑ q, f q :=
    Fintype.sum_equiv (finProdFinEquiv (m := 64) (n := 128)) _ f fun kd =>
      congrArg f (Fin.ext (show 128 * kd.1.val + kd.2.val = kd.2.val + 128 * kd.1.val by omega))
  rw [← h, Fintype.sum_prod_type]

theorem v44_at (n : Fin 64) :
    val_main_v44 (F := Ideal) x0 x1 x2 x3 x4 (ix1 n) = ∑ k, sumSq (unit (residArr x0 x1 x2 x3 x4 n k)) := by
  rw [val_main_v44_apply, val_main_cst_7_apply]
  refine (congrArg (· + _) Ideal.ofBits_zero_f32).trans ((zero_add _).trans ((sum_flat _).trans ?_))
  refine Finset.sum_congr rfl fun k _ => Finset.sum_congr rfl fun d _ => ?_
  rw [show idx_main_v44 (ix1 n) (flat k d) = ix2 n (flat k d) from idx2_ext rfl rfl, val_main_v43_apply, v42_at]
  rfl

/-- **The reference's result.** Cluster `k`, channel `d` of image `n`. -/
theorem reference_at (n : Fin 64) (k : Fin 64) (d : Fin 128) :
    val_main_v51 (F := Ideal) x0 x1 x2 x3 x4 (ix3 n k d) = refFinish (residArr x0 x1 x2 x3 x4 n) k d := by
  rw [val_main_v51_apply, show idx_main_v51 (ix3 n k d) = ix2 n (flat k d) from idx2_ext
    (show ((n.val * 64 + k.val) * 128 + d.val) / 8192 = n.val by omega)
    (show ((n.val * 64 + k.val) * 128 + d.val) % 8192 = 128 * k.val + d.val by omega),
    val_main_v50_apply, v42_at, val_main_v49_apply, val_main_v48_apply, val_main_v46_apply, val_main_v45_apply, val_main_v47_apply,
    val_main_cst_8_apply, show idx_main_v45 (idx_main_v49 (ix2 n (flat k d))) = ix1 n from idx1_ext rfl, v44_at]
  show Ideal.div _ (max (Ideal.sqrt _) (Ideal.ofBits .f32 0x2B8CBCCC#32)) = _
  rw [eps_bits]
  rfl

end Cert.ReferenceIdeal.Images
-- ==== Proof.Equation.lean ====
/-
  The kernel's arrangement and the reference's give the same numbers: for real weights, biases and centroids and unmasked
  positions, whatever the positions' vectors hold.
-/
module

public import proofs.«01_k».proof.Proof.Real

@[expose] public section

noncomputable section

namespace NetVlad

open Idealize.ShloMosaic
open scoped BigOperators

/-! ## One position -/

/-- The two logits agree and are real: the kernel scales the dot product, the reference the vector. -/
theorem logits (w : Fin 64 → Fin 128 → ℝ) (b : Fin 64 → ℝ) (x : Fin 128 → EReal) : ∃ l : Fin 64 → ℝ,
    logit (fun k d => (w k d : EReal)) (fun k => (b k : EReal)) x = (fun k => (l k : EReal))
    ∧ refLogit (fun k d => (w k d : EReal)) (fun k => (b k : EReal)) x = (fun k => (l k : EReal)) := by
  obtain ⟨r, u, hr, hinv, hu⟩ := normalize x
  have hs : ∀ k, ∑ d, (u d : EReal) * (w k d : EReal) = ((∑ d, u d * w k d : ℝ) : EReal) := fun k => by
    rw [← coe_sum]
    exact Finset.sum_congr rfl fun d _ => (EReal.coe_mul _ _).symm
  refine ⟨fun k => (∑ d, u d * w k d) + b k, funext fun k => ?_, funext fun k => ?_⟩
  · show (∑ d, (w k d : EReal) * x d) * invNorm x + (b k : EReal) = (((∑ d, u d * w k d) + b k : ℝ) : EReal)
    rw [hinv, sum_mul_coe _ _ r hr, EReal.coe_add, ← hs]
    refine congrArg (· + _) (Finset.sum_congr rfl fun d _ => ?_)
    rw [mul_assoc, (hu d).1, mul_comm]
  · show (∑ d, unit x d * (w k d : EReal)) + (b k : EReal) = (((∑ d, u d * w k d) + b k : ℝ) : EReal)
    rw [EReal.coe_add, ← hs]
    exact congrArg (· + _) (Finset.sum_congr rfl fun d _ => by rw [(hu d).2])

/-- The largest of 64 real numbers is real. -/
theorem largest_real (l : Fin 64 → ℝ) : ∃ m : ℝ, largest (fun k => (l k : EReal)) = (m : EReal) := by
  obtain ⟨k, _, hk⟩ := Finset.exists_mem_eq_sup (Finset.univ : Finset (Fin 64)) ⟨0, Finset.mem_univ _⟩ (fun k => (l k : EReal))
  exact ⟨l k, hk⟩

/-- The two soft assignments of real logits agree and are real: the divisor is a positive real number. -/
theorem softs (l : Fin 64 → ℝ) : ∃ a : Fin 64 → ℝ, ∀ k, soft (fun k => (l k : EReal)) k = (a k : EReal)
    ∧ refSoft (fun k => (l k : EReal)) 1 k = (a k : EReal) := by
  obtain ⟨m, hm⟩ := largest_real l
  have he : ∀ k, expAt (fun k => (l k : EReal)) k = ((Real.exp (l k - m) : ℝ) : EReal) := fun k => by
    show Ideal.exp ((l k : EReal) - largest fun k => (l k : EReal)) = _
    rw [hm, ← EReal.coe_sub, Ideal.exp_coe]
  have hz : ∑ k, expAt (fun k => (l k : EReal)) k = ((∑ k, Real.exp (l k - m) : ℝ) : EReal) := by
    rw [← coe_sum]
    exact Finset.sum_congr rfl fun k _ => he k
  have hpos : (0 : ℝ) < ∑ k, Real.exp (l k - m) :=
    Finset.sum_pos (fun k _ => Real.exp_pos _) ⟨0, Finset.mem_univ _⟩
  refine ⟨fun k => Real.exp (l k - m) / ∑ k', Real.exp (l k' - m), fun k => ⟨?_, ?_⟩⟩
  · show expAt _ k * Ideal.div 1 (∑ k', expAt _ k') = _
    rw [hz, Ideal.mul_one_div (by exact_mod_cast hpos.ne'), he, div_real _ _ hpos.ne']
  · show Ideal.div (expAt _ k) (∑ k', expAt _ k') * 1 = _
    rw [hz, he, div_real _ _ hpos.ne', mul_one]

/-- **One position.** Its soft assignments and what it adds to the first accumulator agree, and are real. -/
theorem position (w : Fin 64 → Fin 128 → ℝ) (b : Fin 64 → ℝ) (x : Fin 128 → EReal) :
    ∃ (a : Fin 64 → ℝ) (t : Fin 64 → Fin 128 → ℝ),
      (∀ k, soft (logit (fun k d => (w k d : EReal)) (fun k => (b k : EReal)) x) k = (a k : EReal)
        ∧ refSoft (refLogit (fun k d => (w k d : EReal)) (fun k => (b k : EReal)) x) 1 k = (a k : EReal))
      ∧ ∀ k d, firstTerm (fun k d => (w k d : EReal)) (fun k => (b k : EReal)) x k d = (t k d : EReal)
        ∧ refTerm (fun k d => (w k d : EReal)) (fun k => (b k : EReal)) 1 x k d = (t k d : EReal) := by
  obtain ⟨l, hl, hl'⟩ := logits w b x
  obtain ⟨a, ha⟩ := softs l
  obtain ⟨r, u, hr, hinv, hu⟩ := normalize x
  refine ⟨a, fun k d => a k * u d, fun k => ?_, fun k d => ⟨?_, ?_⟩⟩
  · rw [hl, hl']
    exact ha k
  · show soft (logit _ _ x) k * invNorm x * x d = _
    rw [hl, (ha k).1, hinv, mul_assoc, mul_comm (r : EReal), (hu d).1, EReal.coe_mul]
  · show refSoft (refLogit _ _ x) 1 k * unit x d = _
    rw [hl', (ha k).2, (hu d).2, EReal.coe_mul]

/-! ## One image -/

/-- The two residuals of an image agree and are real. -/
theorem residuals (w : Fin 64 → Fin 128 → ℝ) (b : Fin 64 → ℝ) (ct : Fin 64 → Fin 128 → ℝ) (x : Fin 4096 → Fin 128 → EReal) :
    ∃ v : Fin 64 → Fin 128 → ℝ,
      resid (fun k d => ∑ p, firstTerm (fun k d => (w k d : EReal)) (fun k => (b k : EReal)) (x p) k d)
          (fun k => ∑ p, soft (logit (fun k d => (w k d : EReal)) (fun k => (b k : EReal)) (x p)) k)
          (fun k d => (ct k d : EReal)) = (fun k d => (v k d : EReal))
      ∧ resid (fun k d => ∑ p, refTerm (fun k d => (w k d : EReal)) (fun k => (b k : EReal)) 1 (x p) k d)
          (fun k => ∑ p, refSoft (refLogit (fun k d => (w k d : EReal)) (fun k => (b k : EReal)) (x p)) 1 k)
          (fun k d => (ct k d : EReal)) = (fun k d => (v k d : EReal)) := by
  choose a t ha ht using fun p => position w b (x p)
  refine ⟨fun k d => (∑ p, t p k d) - (∑ p, a p k) * ct k d, funext fun k => funext fun d => ?_, funext fun k => funext fun d => ?_⟩
  · show (∑ p, firstTerm _ _ (x p) k d) - (∑ p, soft (logit _ _ (x p)) k) * (ct k d : EReal) = _
    rw [Finset.sum_congr rfl fun p _ => (ht p k d).1, Finset.sum_congr rfl fun p _ => (ha p k).1, coe_sum, coe_sum,
      ← EReal.coe_mul, ← EReal.coe_sub]
  · show (∑ p, refTerm _ _ 1 (x p) k d) - (∑ p, refSoft (refLogit _ _ (x p)) 1 k) * (ct k d : EReal) = _
    rw [Finset.sum_congr rfl fun p _ => (ht p k d).2, Finset.sum_congr rfl fun p _ => (ha p k).2, coe_sum, coe_sum,
      ← EReal.coe_mul, ← EReal.coe_sub]

/-- The squared length of a normalized real vector: one, or `s` over the guard's square where that is smaller. -/
theorem normalized_sq (y : Fin 128 → ℝ) :
    sq (fun d => y d / clipped (sq y)) = min (sq y / (guard * guard)) 1 := by
  have h : sq (fun d => y d / clipped (sq y)) = sq y / (clipped (sq y) * clipped (sq y)) := by
    unfold sq
    rw [Finset.sum_div]
    exact Finset.sum_congr rfl fun d _ => div_mul_div_comm _ _ _ _
  have hs := sq_nonneg' y
  have hg : 0 < guard * guard := mul_pos guard_pos guard_pos
  have hc : clipped (sq y) * clipped (sq y) = max (sq y) (guard * guard) := by
    rw [← sqrt_guard, Real.mul_self_sqrt (le_max_of_le_right hg.le)]
  rw [h, hc]
  rcases le_total (sq y) (guard * guard) with hle | hle
  · rw [max_eq_right hle, min_eq_left ((div_le_one hg).mpr hle)]
  · rw [max_eq_left hle, min_eq_right ((one_le_div hg).mpr hle), div_self (hg.trans_le hle).ne']

/-- **The two normalizations.** Of real residuals, the kernel's one factor and the reference's two quotients agree. -/
theorem finish_eq (v : Fin 64 → Fin 128 → ℝ) (k : Fin 64) (d : Fin 128) :
    finish (fun k d => (v k d : EReal)) k d = refFinish (fun k d => (v k d : EReal)) k d := by
  have hg : guard * guard ≠ 0 := (mul_pos guard_pos guard_pos).ne'
  have hsq : ∀ k, sumSq (unit fun d => (v k d : EReal)) = ((min (sq (v k) / (guard * guard)) 1 : ℝ) : EReal) := fun k => by
    rw [show (unit fun d => (v k d : EReal)) = fun d => ((v k d / clipped (sq (v k)) : ℝ) : EReal) from
      funext (unit_coe (v k)), sumSq_coe, normalized_sq]
  have htot : total (fun k d => (v k d : EReal)) = ((∑ k, min (sq (v k) / (guard * guard)) 1 : ℝ) : EReal) := by
    unfold total
    rw [← coe_sum]
    refine Finset.sum_congr rfl fun k _ => ?_
    rw [sumSq_coe, eps2_guard, div_real _ _ hg, ← EReal.coe_one, coe_min]
  have hnn : 0 ≤ ∑ k, min (sq (v k) / (guard * guard)) 1 := Finset.sum_nonneg fun k _ =>
    le_min (div_nonneg (sq_nonneg' _) (mul_pos guard_pos guard_pos).le) zero_le_one
  unfold finish refFinish refTotal
  rw [htot, rsqrt_clipped, sumSq_coe, rsqrt_clipped, Finset.sum_congr rfl fun k _ => hsq k, coe_sum, sqrt_clipped _ hnn, unit_coe,
    div_real _ _ (clipped_pos _).ne', ← EReal.coe_mul, ← EReal.coe_mul, div_eq_mul_inv, div_eq_mul_inv, mul_assoc]

/-- **The equation of one image.** -/
theorem image_eq (w : Fin 64 → Fin 128 → ℝ) (b : Fin 64 → ℝ) (ct : Fin 64 → Fin 128 → ℝ) (x : Fin 4096 → Fin 128 → EReal)
    (k : Fin 64) (d : Fin 128) :
    finish (resid (fun k d => ∑ p, firstTerm (fun k d => (w k d : EReal)) (fun k => (b k : EReal)) (x p) k d)
          (fun k => ∑ p, soft (logit (fun k d => (w k d : EReal)) (fun k => (b k : EReal)) (x p)) k)
          (fun k d => (ct k d : EReal))) k d
      = refFinish (resid (fun k d => ∑ p, refTerm (fun k d => (w k d : EReal)) (fun k => (b k : EReal)) 1 (x p) k d)
          (fun k => ∑ p, refSoft (refLogit (fun k d => (w k d : EReal)) (fun k => (b k : EReal)) (x p)) 1 k)
          (fun k d => (ct k d : EReal))) k d := by
  obtain ⟨v, h, h'⟩ := residuals w b ct x
  rw [h, h', finish_eq]

end NetVlad
-- ==== Proof.Inputs.lean ====
/-
  What the precondition says of the arguments: centroids, weights and biases are real numbers, and every mask is one.
-/
module

public import proofs.«01_k».proof.Defs
public import Idealize.ShloMosaic.Lib.IdealHost
public import Idealize.ShloMosaic.Lib.ValueIdx

@[expose] public section

noncomputable section

namespace Cert.Pre_usual_inputs

open Cert.Pre_usual_inputs Idealize.ShloMosaic Idealize.ShloMosaic.ValueIdx

instance facts : Facts where
  bcast_S_S64x128 := by decide
  bcast_S_S64 := by decide
  bcast_S_S64x4096 := by decide

theorem top_bits : Ideal.ofBits .f32 0x7F800000#32 = ⊤ := by simp [Ideal.ofBits, Ideal.ieee]

/-- A magnitude below infinity is a real number's. -/
theorem real_of_abs (x : EReal) (h : Ideal.cmp .olt (max x (-x)) (Ideal.ofBits .f32 0x7F800000#32) = 1#1) :
    ∃ y : ℝ, x = (y : EReal) := by
  rw [top_bits] at h
  induction x with
  | bot => simp [Ideal.cmp] at h
  | top => simp [Ideal.cmp] at h
  | coe y => exact ⟨y, rfl⟩

/-- A number that compares equal to one is one. -/
theorem one_of_eq (x : EReal) (h : Ideal.cmp .oeq x (Ideal.ofBits .f32 0x3F800000#32) = 1#1) : x = 1 := by
  rw [Ideal.ofBits_one_f32] at h
  by_contra hx
  simp [Ideal.cmp, hx] at h

variable (x0 : FVec Ideal S64x4096x128 .f32) (x1 x2 : FVec Ideal S64x128 .f32) (x3 : FVec Ideal S64 .f32)
  (x4 : FVec Ideal S64x4096 .f32)

/-- **The arguments the claim is about.** -/
theorem usual (h : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2 = (fun _ => 1#1)) :
    (∃ ct : Fin 64 → Fin 128 → ℝ, ∀ k d, x1 (ix2 k d) = (ct k d : EReal)) ∧ (∃ w : Fin 64 → Fin 128 → ℝ, ∀ k d, x2 (ix2 k d) = (w k d : EReal))
      ∧ (∃ b : Fin 64 → ℝ, ∀ k, x3 (ix1 k) = (b k : EReal)) ∧ ∀ n p, x4 (ix2 n p) = (1 : EReal) := by
  obtain ⟨h1, h2, h3, h4⟩ := h
  have hc : ∀ (k : Fin 64) (d : Fin 128), ∃ y : ℝ, x1 (ix2 k d) = (y : EReal) := fun k d =>
    real_of_abs _ (congrFun h1 (ix2 k d))
  have hw : ∀ (k : Fin 64) (d : Fin 128), ∃ y : ℝ, x2 (ix2 k d) = (y : EReal) := fun k d =>
    real_of_abs _ (congrFun h2 (ix2 k d))
  have hb : ∀ k : Fin 64, ∃ y : ℝ, x3 (ix1 k) = (y : EReal) := fun k => real_of_abs _ (congrFun h3 (ix1 k))
  choose ct hct using hc
  choose w hw using hw
  choose b hb using hb
  exact ⟨⟨ct, hct⟩, ⟨w, hw⟩, ⟨b, hb⟩, fun n p => one_of_eq _ (congrFun h4 (ix2 n p))⟩

end Cert.Pre_usual_inputs
-- ==== Proof.lean ====
/-
  The proof of `Cert.Claim`: the frames from the programs' runs, the named constant's statement, and the value claim, which puts
  the kernel's array (`kernel_at`) and the reference's (`reference_at`) side by side at an index and closes with the equation
  of one image (`image_eq`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Kernel
public import proofs.«01_k».proof.Proof.Reference
public import proofs.«01_k».proof.Proof.Equation
public import proofs.«01_k».proof.Proof.Inputs
public import Idealize.ShloMosaic.Adequacy
public import Idealize.ShloMosaic.Init
public import Idealize.ShloMosaic.Lib.Quiescent

@[expose] public section

noncomputable section

namespace Cert.Proof

open Idealize.ShloMosaic Idealize.ShloMosaic.ValueIdx Idealize.SL.Sem

/-! ## The reference's frames -/

/-- The reference before and after the ideal pass is one text, so its shape relations and its run are the same. -/
instance referenceFacts₀ : Cert.Reference.Facts₀ :=
  have h := Cert.ReferenceIdeal.Gen.facts₀
  ⟨h.1, h.2, h.3, h.4, h.5, h.6, h.7, h.8, h.9, h.10, h.11, h.12, h.13, h.14, h.15, h.16, h.17, h.18, h.19, h.20, h.21, h.22, h.23,
    h.24, h.25⟩

instance referenceFacts : Cert.Reference.Facts where

theorem quiescent_Reference : quiescent_Reference := fun m ρ _ =>
  (θ_run Cert.Reference.defs _ _).mono (fun r h => ⟨fun c => (h c).2, sem_eq_zero_of_no_sems (by decide) r.2⟩)
    (Cert.ReferenceIdeal.Value.run (F := Bits) m ρ)

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value claim -/

/-- On the arguments of the precondition the kernel's array and the reference's are equal. -/
theorem value (m : (ℓ : Loc Cert.KernelIdeal.nD Cert.KernelIdeal.τ Cert.KernelIdeal.sig) → Buf (Elt Ideal) ℓ)
    (h : Pre_KernelIdeal_usual_inputs m) (c : Dev Cert.KernelIdeal.nD) :
    Cert.ReferenceIdeal.Read.val_main_v51 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Value.G4 m c := by
  obtain ⟨⟨ct, hct⟩, ⟨w, hw⟩, ⟨b, hb⟩, hm⟩ := Cert.Pre_usual_inputs.usual _ _ _ _ _ (h c)
  funext i
  obtain ⟨n, k, d, rfl⟩ : ∃ (n k : Fin 64) (d : Fin 128), i = ix3 n k d :=
    ⟨i 0, i 1, i 2, Cert.ReferenceIdeal.Images.idx3_ext rfl rfl rfl⟩
  have hc' : Cert.KernelIdeal.Images.cArr m c = fun k d => (ct k d : EReal) := funext fun k => funext fun d => hct k d
  have hw' : Cert.KernelIdeal.Images.wArr m c = fun k d => (w k d : EReal) := funext fun k => funext fun d => hw k d
  have hb' : Cert.KernelIdeal.Images.bArr m c = fun k => (b k : EReal) := funext fun k => hb k
  have hm' : (fun p : Fin 4096 => Cert.ReferenceIdeal.Images.maskArr
      (m ((c.tc : Thread Cert.KernelIdeal.nD Cert.KernelIdeal.τ).loc Cert.KernelIdeal.main_arg4)) n p) = fun _ => (1 : EReal) :=
    funext fun p => hm n p
  have e := NetVlad.image_eq w b ct (Cert.KernelIdeal.Images.xArr m c n) k d
  rw [← hc', ← hw', ← hb'] at e
  refine (Cert.ReferenceIdeal.Images.reference_at _ _ _ _ _ n k d).trans (Eq.trans ?_
    (e.symm.trans (Cert.KernelIdeal.Images.kernel_at m c n k d).symm))
  unfold Cert.ReferenceIdeal.Images.residArr Cert.ReferenceIdeal.Images.firstArr Cert.ReferenceIdeal.Images.sumsArr
  simp only [congrFun hm']

theorem algebraic : algebraic_KernelIdeal_ReferenceIdeal_pre_usual_inputs := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v51_eq, (hagree c).1, (hagree c).2.1, (hagree c).2.2.1, (hagree c).2.2.2.1,
    (hagree c).2.2.2.2]
  exact value m hpre c

theorem claim : Cert.Claim := ⟨Cert.Kernel.Gen.facts, Cert.KernelIdeal.Gen.facts, Cert.ReferenceIdeal.Gen.facts, referenceFacts,
  Cert.Pre_usual_inputs.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, quiescent_Reference,
  IdealRules.named_const.statement Cert.KernelIdeal.κ "eps_sq" .f32 0x179ABE15#32 _ rfl, trivial, algebraic⟩

end Cert.Proof

end
